-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![16, 512, 768]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 512, 768]⟩ ⟨3, ![16, 512, 768]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x768 : Shape := ⟨3, ![2, 512, 768]⟩
abbrev S768x512 : Shape := ⟨2, ![768, 512]⟩
abbrev S16x512x64x64 : Shape := ⟨4, ![16, 512, 64, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S16x512x64x64 : S_.BroadcastsInDim S16x512x64x64 (![] : Fin 0 → Fin S16x512x64x64.rank)
  reducesTo_S16x512x64x64_S_d0_1_2_3 : S16x512x64x64.ReducesTo [0, 1, 2, 3] S_

variable [Facts]

def fn {F : FTy → Type} [FloatOps F] (main_arg0 : FVec F S2x512x768 .f32) (main_arg1 : FVec F S768x512 .f32) (main_arg2 : FVec F S16x512x64x64 .f32) (main_arg3 : FVec F S16x512x64x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S16x512x64x64 .f32 := Host.absf main_arg2
  let main_cst_2 : FVec F S_ .f32 := constant S_ .f32 0x7F800000#32
  let main_v10 : FVec F S16x512x64x64 .f32 := broadcastInDim S16x512x64x64 ![] bcast_S_S16x512x64x64 main_cst_2
  let main_v11 : IVec S16x512x64x64 1 := cmpf .olt main_v9 main_v10
  let main_c_3 : IVec S_ 1 := constantI S_ 1 1#1
  let main_v12 : IVec S_ 1 := (fun x v => Host.reduce IntOp.andi x v reducesTo_S16x512x64x64_S_d0_1_2_3 h_S_) main_v11 main_c_3
  let main_v13 : IVec S_ 1 := andi main_v8 main_v12
  main_v13
-- ==== Pre_finite_scores_ReferenceIdeal.lean ====
abbrev S16x512x768 : Shape := ⟨3, ![16, 512, 768]⟩
abbrev S768x4096 : Shape := ⟨2, ![768, 4096]⟩
abbrev S16x512x64x64 : Shape := ⟨4, ![16, 512, 64, 64]⟩
abbrev S4096x768 : Shape := ⟨2, ![4096, 768]⟩
abbrev S_ : Shape := ⟨0, ![]⟩

class Facts : Prop where
  bcast_S_S16x512x768 : S_.BroadcastsInDim S16x512x768 (![] : Fin 0 → Fin S16x512x768.rank)
  reducesTo_S16x512x768_S_d0_1_2 : S16x512x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_
  bcast_S_S16x512x64x64 : S_.BroadcastsInDim S16x512x64x64 (![] : Fin 0 → Fin S16x512x64x64.rank)
  reducesTo_S16x512x64x64_S_d0_1_2_3 : S16x512x64x64.ReducesTo [0, 1, 2, 3] S_

variable [Facts]

def fn {F : FTy → Type} [FloatOps F] (main_arg0 : FVec F S16x512x768 .f32) (main_arg1 : FVec F S768x4096 .f32) (main_arg2 : FVec F S16x512x64x64 .f32) (main_arg3 : FVec F S16x512x64x64 .f32) (main_arg4 : FVec F S4096x768 .f32) : IVec S_ 1 :=
  let main_v0 : FVec F S16x512x768 .f32 := Host.absf main_arg0
  let main_cst : FVec F S_ .f32 := constant S_ .f32 0x7F800000#32
  let main_v1 : FVec F S16x512x768 .f32 := broadcastInDim S16x512x768 ![] bcast_S_S16x512x768 main_cst
  let main_v2 : IVec S16x512x768 1 := cmpf .olt main_v0 main_v1
  let main_c : IVec S_ 1 := constantI S_ 1 1#1
  let main_v3 : IVec S_ 1 := (fun x v => Host.reduce IntOp.andi x v reducesTo_S16x512x768_S_d0_1_2 h_S_) main_v2 main_c
  let main_v4 : FVec F S768x4096 .f32 := Host.absf main_arg1
  let main_cst_0 : FVec F S_ .f32 := constant S_ .f32 0x7F800000#32
  let main_v5 : FVec F S768x4096 .f32 := broadcastInDim S768x4096 ![] bcast_S_S768x4096 main_cst_0
  let main_v6 : IVec S768x4096 1 := cmpf .olt main_v4 main_v5
  let main_c_1 : IVec S_ 1 := constantI S_ 1 1#1
  let main_v7 : IVec S_ 1 := (fun x v => Host.reduce IntOp.andi x v reducesTo_S768x4096_S_d0_1 h_S_) main_v6 main_c_1
  let main_v8 : IVec S_ 1 := andi main_v3 main_v7
  let main_v9 : FVec F S16x512x64x64 .f32 := Host.absf main_arg2
  let main_cst_2 : FVec F S_ .f32 := constant S_ .f32 0x7F800000#32
  let main_v10 : FVec F S16x512x64x64 .f32 := broadcastInDim S16x512x64x64 ![] bcast_S_S16x512x64x64 main_cst_2
  let main_v11 : IVec S16x512x64x64 1 := cmpf .olt main_v9 main_v10
  let main_c_3 : IVec S_ 1 := constantI S_ 1 1#1
  let main_v12 : IVec S_ 1 := (fun x v => Host.reduce IntOp.andi x v reducesTo_S16x512x64x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S16x512x64x64 : Shape := ⟨4, ![16, 512, 64, 64]⟩
abbrev S512x768 : Shape := ⟨2, ![512, 768]⟩
abbrev S1x512x768 : Shape := ⟨3, ![1, 512, 768]⟩
abbrev S8x768x512 : Shape := ⟨3, ![8, 768, 512]⟩
abbrev S8x512x768 : Shape := ⟨3, ![8, 512, 768]⟩
abbrev S2x512x8x64 : Shape := ⟨4, ![2, 512, 8, 64]⟩
abbrev S7 : Shape := ⟨1, ![7]⟩
abbrev S2x2 : Shape := ⟨2, ![2, 2]⟩
abbrev S1x1 : Shape := ⟨2, ![1, 1]⟩
abbrev S_ : Shape := ⟨0, ![]⟩
abbrev S1x512x8x64 : Shape := ⟨4, ![1, 512, 8, 64]⟩
abbrev S512x8x64 : Shape := ⟨3, ![512, 8, 64]⟩
abbrev S1x768x512 : Shape := ⟨3, ![1, 768, 512]⟩
abbrev S1 : Shape := ⟨1, ![1]⟩
abbrev S512x512 : Shape := ⟨2, ![512, 512]⟩
abbrev S512x64 : Shape := ⟨2, ![512, 64]⟩
abbrev S1x512x1x64 : Shape := ⟨4, ![1, 512, 1, 64]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S16x512x64x64, .f32⟩
  | .hbm, ⟨3, _⟩ => ⟨S16x512x64x64, .f32⟩
  | .hbm, ⟨4, _⟩ => ⟨S512x768, .f32⟩
  | .hbm, ⟨5, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S512x768, .f32⟩
  | .local _ .vmem, ⟨3, _⟩ => ⟨S1x512x768, .f32⟩
  | .local _ .vmem, ⟨4, _⟩ => ⟨S1x512x768, .f32⟩
  | .local _ .vmem, ⟨5, _⟩ => ⟨S2x512x768, .bf16⟩
  | .local _ .vmem, ⟨6, _⟩ => ⟨S8x768x512, .bf16⟩
  | .local _ .vmem, ⟨7, _⟩ => ⟨S8x512x768, .bf16⟩
  | .local _ .vmem, ⟨8, _⟩ => ⟨S2x512x8x64, .f32⟩
  | .local _ .vmem, ⟨9, _⟩ => ⟨S2x512x8x64, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev barrier0 : Sem sig := 0

abbrev nD : Nat := 8
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let arg1 : BitVec 32 := BitVec.ofNat 32 (i 1).val
  let c0_i32_10 : BitVec 32 := 0#32
  let v17 : BitVec 1 := Scalar.cmpi .eq arg1 c0_i32_10
  let v18 : BitVec 1 := Scalar.andi v16 v17
  let v19 : BitVec 32 := Scalar.extui v18
  let c0_i32_11 : BitVec 32 := 0#32
  let v20 : BitVec 1 := Scalar.cmpi .ne v19 c0_i32_11
  v20

def k0_off1 (i : grid0.Coords) : Fin 2 → Nat :=
  let c0_i32_153 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v13 : BitVec 32 := Scalar.remsi v1 c2_i32
  ![0, v13.toNat]
def k0_off2 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v13 : BitVec 32 := Scalar.remsi v1 c2_i32
  let c0_i32_154 : BitVec 32 := 0#32
  let c0_i32_155 : BitVec 32 := 0#32
  let c0_i32_156 : BitVec 32 := 0#32
  ![v13.toNat, 0, 0, 0]
def k0_off3 (i : grid0.Coords) (d2 : Dev nD) : Fin 4 → Nat :=
  let v2 : BitVec 32 := Dev.word d2
  let c1_i32 : BitVec 32 := 1#32
  let v3 : BitVec 32 := Scalar.divsi v2 c1_i32
  let c8_i32_0 : BitVec 32 := 8#32
  let v4 : BitVec 32 := Scalar.remsi v3 c8_i32_0
  let c2_i32_152 : BitVec 32 := 2#32
  let v337 : BitVec 32 := Scalar.muli v4 c2_i32_152
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_142 : BitVec 32 := 0#32
  let v316 : BitVec 1 := Scalar.cmpi .sgt v1 c0_i32_142
  let v317 : BitVec 32 := Scalar.extui v316
  let c0_i32_143 : BitVec 32 := 0#32
  let v318 : BitVec 1 := Scalar.cmpi .slt v1 c0_i32_143
  let v319 : BitVec 32 := Scalar.extui v318
  let v320 : BitVec 32 := Scalar.subi v317 v319
  let c8_i32_141 : BitVec 32 := 8#32
  let c0_i32_144 : BitVec 32 := 0#32
  let v321 : BitVec 1 := Scalar.cmpi .sgt c8_i32_141 c0_i32_144
  let v322 : BitVec 32 := Scalar.extui v321
  let c0_i32_145 : BitVec 32 := 0#32
  let v323 : BitVec 1 := Scalar.cmpi .slt c8_i32_141 c0_i32_145
  let v324 : BitVec 32 := Scalar.extui v323
  let v325 : BitVec 32 := Scalar.subi v322 v324
  let v326 : BitVec 1 := Scalar.cmpi .ne v320 v325
  let v327 : BitVec 32 := Scalar.remsi v1 c8_i32_141
  let c0_i32_146 : BitVec 32 := 0#32
  let v328 : BitVec 1 := Scalar.cmpi .ne v327 c0_i32_146
  let v329 : BitVec 1 := Scalar.andi v326 v328
  let v315 : BitVec 32 := Scalar.divsi v1 c8_i32_141
  let c1_i32_147 : BitVec 32 := 1#32
  let v330 : BitVec 32 := Scalar.subi v315 c1_i32_147
  let v331 : BitVec 32 := Scalar.select v329 v330 v315
  let v338 : BitVec 32 := Scalar.addi v337 v331
  let c0_i32_157 : BitVec 32 := 0#32
  let c8_i32_148 : BitVec 32 := 8#32
  let v332 : BitVec 32 := Scalar.remsi v1 c8_i32_148
  let v333 : BitVec 32 := Scalar.subi v4 v332
  let c8_i32_149 : BitVec 32 := 8#32
  let v334 : BitVec 32 := Scalar.addi v333 c8_i32_149
  let c8_i32_150 : BitVec 32 := 8#32
  let v335 : BitVec 32 := Scalar.remsi v334 c8_i32_150
  let c8_i32_151 : BitVec 32 := 8#32
  let v336 : BitVec 32 := Scalar.muli v335 c8_i32_151
  let c0_i32_158 : BitVec 32 := 0#32
  ![v338.toNat, 0, v336.toNat, 0]
def k0_off4 (i : grid0.Coords) : Fin 2 → Nat :=
  let c1_i32_159 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v13 : BitVec 32 := Scalar.remsi v1 c2_i32
  ![1, v13.toNat]
def k0_dev1 (d2 : Dev nD) : Nat :=
  let c0_i32_167 : BitVec 32 := 0#32
  let v2 : BitVec 32 := Dev.word d2
  let c1_i32 : BitVec 32 := 1#32
  let v3 : BitVec 32 := Scalar.divsi v2 c1_i32
  let c8_i32_0 : BitVec 32 := 8#32
  let v4 : BitVec 32 := Scalar.remsi v3 c8_i32_0
  let c8_i32_3 : BitVec 32 := 8#32
  let v7 : BitVec 32 := Scalar.addi v4 c8_i32_3
  let c1_i32_4 : BitVec 32 := 1#32
  let v8 : BitVec 32 := Scalar.subi v7 c1_i32_4
  let c8_i32_5 : BitVec 32 := 8#32
  let v9 : BitVec 32 := Scalar.remsi v8 c8_i32_5
  let c1_i32_166 : BitVec 32 := 1#32
  let v352 : BitVec 32 := Scalar.muli v9 c1_i32_166
  let v353 : BitVec 32 := Scalar.addi c0_i32_167 v352
  v353.toNat
def k0_dev2 (d2 : Dev nD) : Nat :=
  let c0_i32_170 : BitVec 32 := 0#32
  let v2 : BitVec 32 := Dev.word d2
  let c1_i32 : BitVec 32 := 1#32
  let v3 : BitVec 32 := Scalar.divsi v2 c1_i32
  let c8_i32_0 : BitVec 32 := 8#32
  let v4 : BitVec 32 := Scalar.remsi v3 c8_i32_0
  let c1_i32_1 : BitVec 32 := 1#32
  let v5 : BitVec 32 := Scalar.addi v4 c1_i32_1
  let c8_i32_2 : BitVec 32 := 8#32
  let v6 : BitVec 32 := Scalar.remsi v5 c8_i32_2
  let c1_i32_169 : BitVec 32 := 1#32
  let v354 : BitVec 32 := Scalar.muli v6 c1_i32_169
  let v355 : BitVec 32 := Scalar.addi c0_i32_170 v354
  v355.toNat
def k0_off5 (d2 : Dev nD) : Fin 3 → Nat :=
  let v2 : BitVec 32 := Dev.word d2
  let c1_i32 : BitVec 32 := 1#32
  let v3 : BitVec 32 := Scalar.divsi v2 c1_i32
  let c8_i32_0 : BitVec 32 := 8#32
  let v4 : BitVec 32 := Scalar.remsi v3 c8_i32_0
  let v366 : Index := Scalar.indexCast v4
  let c0_180 : Index := 0#32
  let c0_181 : Index := 0#32
  ![v366.toNat, 0, 0]
def k0_off6 (d2 : Dev nD) : Fin 3 → Nat :=
  let v2 : BitVec 32 := Dev.word d2
  let c1_i32 : BitVec 32 := 1#32
  let v3 : BitVec 32 := Scalar.divsi v2 c1_i32
  let c8_i32_0 : BitVec 32 := 8#32
  let v4 : BitVec 32 := Scalar.remsi v3 c8_i32_0
  let v374 : Index := Scalar.indexCast v4
  let c0_184 : Index := 0#32
  let c0_185 : Index := 0#32
  ![v374.toNat, 0, 0]
def k0_cond2 (i : grid0.Coords) : BitVec 1 :=
  let arg0 : BitVec 32 := BitVec.ofNat 32 (i 0).val
  let c0_i32_12 : BitVec 32 := 0#32
  let v21 : BitVec 1 := Scalar.cmpi .eq arg0 c0_i32_12
  let arg1 : BitVec 32 := BitVec.ofNat 32 (i 1).val
  let c0_i32_13 : BitVec 32 := 0#32
  let v22 : BitVec 1 := Scalar.cmpi .sgt arg1 c0_i32_13
  let v23 : BitVec 1 := Scalar.andi v21 v22
  let v24 : BitVec 32 := Scalar.extui v23
  let c0_i32_14 : BitVec 32 := 0#32
  let v25 : BitVec 1 := Scalar.cmpi .ne v24 c0_i32_14
  v25

def k0_off7 (i : grid0.Coords) : Fin 1 → Nat :=
  let arg1 : BitVec 32 := BitVec.ofNat 32 (i 1).val
  let c1_i32_141 : BitVec 32 := 1#32
  let v315 : BitVec 32 := Scalar.subi arg1 c1_i32_141
  let c0_i32_142 : BitVec 32 := 0#32
  let v316 : BitVec 32 := Scalar.maxsi v315 c0_i32_142
  ![v316.toNat]
def k0_off8 (i : grid0.Coords) (d2 : Dev nD) : Fin 3 → Nat :=
  let v2 : BitVec 32 := Dev.word d2
  let c1_i32 : BitVec 32 := 1#32
  let v3 : BitVec 32 := Scalar.divsi v2 c1_i32
  let c8_i32_0 : BitVec 32 := 8#32
  let v4 : BitVec 32 := Scalar.remsi v3 c8_i32_0
  let arg1 : BitVec 32 := BitVec.ofNat 32 (i 1).val
  let v10 : BitVec 32 := Scalar.subi v4 arg1
  let c8_i32_6 : BitVec 32 := 8#32
  let v11 : BitVec 32 := Scalar.addi v10 c8_i32_6
  let c8_i32_7 : BitVec 32 := 8#32
  let v12 : BitVec 32 := Scalar.remsi v11 c8_i32_7
  let c0_i32_144 : BitVec 32 := 0#32
  let c0_i32_145 : BitVec 32 := 0#32
  ![v12.toNat, 0, 0]
def k0_off9 (i : grid0.Coords) (d2 : Dev nD) : Fin 3 → Nat :=
  let v2 : BitVec 32 := Dev.word d2
  let c1_i32 : BitVec 32 := 1#32
  let v3 : BitVec 32 := Scalar.divsi v2 c1_i32
  let c8_i32_0 : BitVec 32 := 8#32
  let v4 : BitVec 32 := Scalar.remsi v3 c8_i32_0
  let arg1 : BitVec 32 := BitVec.ofNat 32 (i 1).val
  let v10 : BitVec 32 := Scalar.subi v4 arg1
  let c8_i32_6 : BitVec 32 := 8#32
  let v11 : BitVec 32 := Scalar.addi v10 c8_i32_6
  let c8_i32_7 : BitVec 32 := 8#32
  let v12 : BitVec 32 := Scalar.remsi v11 c8_i32_7
  let c0_i32_155 : BitVec 32 := 0#32
  let c0_i32_156 : BitVec 32 := 0#32
  ![v12.toNat, 0, 0]
def k0_cond3 (i : grid0.Coords) : BitVec 1 :=
  let arg0 : BitVec 32 := BitVec.ofNat 32 (i 0).val
  let c0_i32_15 : BitVec 32 := 0#32
  let v26 : BitVec 1 := Scalar.cmpi .eq arg0 c0_i32_15
  let arg1 : BitVec 32 := BitVec.ofNat 32 (i 1).val
  let c7_i32 : BitVec 32 := 7#32
  let v27 : BitVec 1 := Scalar.cmpi .slt arg1 c7_i32
  let v28 : BitVec 1 := Scalar.andi v26 v27
  let v29 : BitVec 32 := Scalar.extui v28
  let c0_i32_16 : BitVec 32 := 0#32
  let v30 : BitVec 1 := Scalar.cmpi .ne v29 c0_i32_16
  v30

def k0_off10 (i : grid0.Coords) : Fin 1 → Nat :=
  let arg1 : BitVec 32 := BitVec.ofNat 32 (i 1).val
  ![arg1.toNat]
def k0_off11 (i : grid0.Coords) (d2 : Dev nD) : Fin 3 → Nat :=
  let v2 : BitVec 32 := Dev.word d2
  let c1_i32 : BitVec 32 := 1#32
  let v3 : BitVec 32 := Scalar.divsi v2 c1_i32
  let c8_i32_0 : BitVec 32 := 8#32
  let v4 : BitVec 32 := Scalar.remsi v3 c8_i32_0
  let arg1 : BitVec 32 := BitVec.ofNat 32 (i 1).val
  let v10 : BitVec 32 := Scalar.subi v4 arg1
  let c8_i32_6 : BitVec 32 := 8#32
  let v11 : BitVec 32 := Scalar.addi v10 c8_i32_6
  let c8_i32_7 : BitVec 32 := 8#32
  let v12 : BitVec 32 := Scalar.remsi v11 c8_i32_7
  let c0_i32_143 : BitVec 32 := 0#32
  let c0_i32_144 : BitVec 32 := 0#32
  ![v12.toNat, 0, 0]
def k0_dev3 (d2 : Dev nD) : Nat :=
  let c0_i32_142 : BitVec 32 := 0#32
  let v2 : BitVec 32 := Dev.word d2
  let c1_i32 : BitVec 32 := 1#32
  let v3 : BitVec 32 := Scalar.divsi v2 c1_i32
  let c8_i32_0 : BitVec 32 := 8#32
  let v4 : BitVec 32 := Scalar.remsi v3 c8_i32_0
  let c1_i32_1 : BitVec 32 := 1#32
  let v5 : BitVec 32 := Scalar.addi v4 c1_i32_1
  let c8_i32_2 : BitVec 32 := 8#32
  let v6 : BitVec 32 := Scalar.remsi v5 c8_i32_2
  let c1_i32_141 : BitVec 32 := 1#32
  let v315 : BitVec 32 := Scalar.muli v6 c1_i32_141
  let v316 : BitVec 32 := Scalar.addi c0_i32_142 v315
  v316.toNat
def k0_off12 (i : grid0.Coords) (d2 : Dev nD) : Fin 3 → Nat :=
  let v2 : BitVec 32 := Dev.word d2
  let c1_i32 : BitVec 32 := 1#32
  let v3 : BitVec 32 := Scalar.divsi v2 c1_i32
  let c8_i32_0 : BitVec 32 := 8#32
  let v4 : BitVec 32 := Scalar.remsi v3 c8_i32_0
  let arg1 : BitVec 32 := BitVec.ofNat 32 (i 1).val
  let v10 : BitVec 32 := Scalar.subi v4 arg1
  let c8_i32_6 : BitVec 32 := 8#32
  let v11 : BitVec 32 := Scalar.addi v10 c8_i32_6
  let c8_i32_7 : BitVec 32 := 8#32
  let v12 : BitVec 32 := Scalar.remsi v11 c8_i32_7
  let c0_i32_149 : BitVec 32 := 0#32
  let c0_i32_150 : BitVec 32 := 0#32
  ![v12.toNat, 0, 0]
def k0_dev4 (d2 : Dev nD) : Nat :=
  let c0_i32_148 : BitVec 32 := 0#32
  let v2 : BitVec 32 := Dev.word d2
  let c1_i32 : BitVec 32 := 1#32
  let v3 : BitVec 32 := Scalar.divsi v2 c1_i32
  let c8_i32_0 : BitVec 32 := 8#32
  let v4 : BitVec 32 := Scalar.remsi v3 c8_i32_0
  let c1_i32_1 : BitVec 32 := 1#32
  let v5 : BitVec 32 := Scalar.addi v4 c1_i32_1
  let c8_i32_2 : BitVec 32 := 8#32
  let v6 : BitVec 32 := Scalar.remsi v5 c8_i32_2
  let c1_i32_147 : BitVec 32 := 1#32
  let v325 : BitVec 32 := Scalar.muli v6 c1_i32_147
  let v326 : BitVec 32 := Scalar.addi c0_i32_148 v325
  v326.toNat
def k0_cond4 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_17 : BitVec 32 := 1#32
  let v31 : BitVec 32 := Scalar.addi v1 c1_i32_17
  let c16_i32 : BitVec 32 := 16#32
  let v32 : BitVec 1 := Scalar.cmpi .slt v31 c16_i32
  let v33 : BitVec 32 := Scalar.extui v32
  let c0_i32_18 : BitVec 32 := 0#32
  let v34 : BitVec 1 := Scalar.cmpi .ne v33 c0_i32_18
  v34

def k0_off13 (i : grid0.Coords) : Fin 2 → Nat :=
  let c0_i32_154 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_8 : BitVec 32 := 1#32
  let v14 : BitVec 32 := Scalar.addi v1 c1_i32_8
  let c2_i32_9 : BitVec 32 := 2#32
  let v15 : BitVec 32 := Scalar.remsi v14 c2_i32_9
  ![0, v15.toNat]
def k0_off14 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_8 : BitVec 32 := 1#32
  let v14 : BitVec 32 := Scalar.addi v1 c1_i32_8
  let c2_i32_9 : BitVec 32 := 2#32
  let v15 : BitVec 32 := Scalar.remsi v14 c2_i32_9
  let c0_i32_155 : BitVec 32 := 0#32
  let c0_i32_156 : BitVec 32 := 0#32
  let c0_i32_157 : BitVec 32 := 0#32
  ![v15.toNat, 0, 0, 0]
def k0_off15 (i : grid0.Coords) (d2 : Dev nD) : Fin 4 → Nat :=
  let v2 : BitVec 32 := Dev.word d2
  let c1_i32 : BitVec 32 := 1#32
  let v3 : BitVec 32 := Scalar.divsi v2 c1_i32
  let c8_i32_0 : BitVec 32 := 8#32
  let v4 : BitVec 32 := Scalar.remsi v3 c8_i32_0
  let c2_i32_153 : BitVec 32 := 2#32
  let v338 : BitVec 32 := Scalar.muli v4 c2_i32_153
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_141 : BitVec 32 := 1#32
  let v315 : BitVec 32 := Scalar.addi v1 c1_i32_141
  let c0_i32_143 : BitVec 32 := 0#32
  let v317 : BitVec 1 := Scalar.cmpi .sgt v315 c0_i32_143
  let v318 : BitVec 32 := Scalar.extui v317
  let c0_i32_144 : BitVec 32 := 0#32
  let v319 : BitVec 1 := Scalar.cmpi .slt v315 c0_i32_144
  let v320 : BitVec 32 := Scalar.extui v319
  let v321 : BitVec 32 := Scalar.subi v318 v320
  let c8_i32_142 : BitVec 32 := 8#32
  let c0_i32_145 : BitVec 32 := 0#32
  let v322 : BitVec 1 := Scalar.cmpi .sgt c8_i32_142 c0_i32_145
  let v323 : BitVec 32 := Scalar.extui v322
  let c0_i32_146 : BitVec 32 := 0#32
  let v324 : BitVec 1 := Scalar.cmpi .slt c8_i32_142 c0_i32_146
  let v325 : BitVec 32 := Scalar.extui v324
  let v326 : BitVec 32 := Scalar.subi v323 v325
  let v327 : BitVec 1 := Scalar.cmpi .ne v321 v326
  let v328 : BitVec 32 := Scalar.remsi v315 c8_i32_142
  let c0_i32_147 : BitVec 32 := 0#32
  let v329 : BitVec 1 := Scalar.cmpi .ne v328 c0_i32_147
  let v330 : BitVec 1 := Scalar.andi v327 v329
  let v316 : BitVec 32 := Scalar.divsi v315 c8_i32_142
  let c1_i32_148 : BitVec 32 := 1#32
  let v331 : BitVec 32 := Scalar.subi v316 c1_i32_148
  let v332 : BitVec 32 := Scalar.select v330 v331 v316
  let v339 : BitVec 32 := Scalar.addi v338 v332
  let c0_i32_158 : BitVec 32 := 0#32
  let c8_i32_149 : BitVec 32 := 8#32
  let v333 : BitVec 32 := Scalar.remsi v315 c8_i32_149
  let v334 : BitVec 32 := Scalar.subi v4 v333
  let c8_i32_150 : BitVec 32 := 8#32
  let v335 : BitVec 32 := Scalar.addi v334 c8_i32_150
  let c8_i32_151 : BitVec 32 := 8#32
  let v336 : BitVec 32 := Scalar.remsi v335 c8_i32_151
  let c8_i32_152 : BitVec 32 := 8#32
  let v337 : BitVec 32 := Scalar.muli v336 c8_i32_152
  let c0_i32_159 : BitVec 32 := 0#32
  ![v339.toNat, 0, v337.toNat, 0]
def k0_off16 (i : grid0.Coords) : Fin 2 → Nat :=
  let c1_i32_160 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_8 : BitVec 32 := 1#32
  let v14 : BitVec 32 := Scalar.addi v1 c1_i32_8
  let c2_i32_9 : BitVec 32 := 2#32
  let v15 : BitVec 32 := Scalar.remsi v14 c2_i32_9
  ![1, v15.toNat]
def k0_off17 (i : grid0.Coords) : Fin 2 → Nat :=
  let c0_i32_31 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v13 : BitVec 32 := Scalar.remsi v1 c2_i32
  ![0, v13.toNat]
def k0_off18 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v13 : BitVec 32 := Scalar.remsi v1 c2_i32
  let c0_i32_32 : BitVec 32 := 0#32
  let c0_i32_33 : BitVec 32 := 0#32
  let c0_i32_34 : BitVec 32 := 0#32
  ![v13.toNat, 0, 0, 0]
def k0_off19 (i : grid0.Coords) (d2 : Dev nD) : Fin 4 → Nat :=
  let v2 : BitVec 32 := Dev.word d2
  let c1_i32 : BitVec 32 := 1#32
  let v3 : BitVec 32 := Scalar.divsi v2 c1_i32
  let c8_i32_0 : BitVec 32 := 8#32
  let v4 : BitVec 32 := Scalar.remsi v3 c8_i32_0
  let c2_i32_30 : BitVec 32 := 2#32
  let v57 : BitVec 32 := Scalar.muli v4 c2_i32_30
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_20 : BitVec 32 := 0#32
  let v36 : BitVec 1 := Scalar.cmpi .sgt v1 c0_i32_20
  let v37 : BitVec 32 := Scalar.extui v36
  let c0_i32_21 : BitVec 32 := 0#32
  let v38 : BitVec 1 := Scalar.cmpi .slt v1 c0_i32_21
  let v39 : BitVec 32 := Scalar.extui v38
  let v40 : BitVec 32 := Scalar.subi v37 v39
  let c8_i32_19 : BitVec 32 := 8#32
  let c0_i32_22 : BitVec 32 := 0#32
  let v41 : BitVec 1 := Scalar.cmpi .sgt c8_i32_19 c0_i32_22
  let v42 : BitVec 32 := Scalar.extui v41
  let c0_i32_23 : BitVec 32 := 0#32
  let v43 : BitVec 1 := Scalar.cmpi .slt c8_i32_19 c0_i32_23
  let v44 : BitVec 32 := Scalar.extui v43
  let v45 : BitVec 32 := Scalar.subi v42 v44
  let v46 : BitVec 1 := Scalar.cmpi .ne v40 v45
  let v47 : BitVec 32 := Scalar.remsi v1 c8_i32_19
  let c0_i32_24 : BitVec 32 := 0#32
  let v48 : BitVec 1 := Scalar.cmpi .ne v47 c0_i32_24
  let v49 : BitVec 1 := Scalar.andi v46 v48
  let v35 : BitVec 32 := Scalar.divsi v1 c8_i32_19
  let c1_i32_25 : BitVec 32 := 1#32
  let v50 : BitVec 32 := Scalar.subi v35 c1_i32_25
  let v51 : BitVec 32 := Scalar.select v49 v50 v35
  let v58 : BitVec 32 := Scalar.addi v57 v51
  let c0_i32_35 : BitVec 32 := 0#32
  let c8_i32_26 : BitVec 32 := 8#32
  let v52 : BitVec 32 := Scalar.remsi v1 c8_i32_26
  let v53 : BitVec 32 := Scalar.subi v4 v52
  let c8_i32_27 : BitVec 32 := 8#32
  let v54 : BitVec 32 := Scalar.addi v53 c8_i32_27
  let c8_i32_28 : BitVec 32 := 8#32
  let v55 : BitVec 32 := Scalar.remsi v54 c8_i32_28
  let c8_i32_29 : BitVec 32 := 8#32
  let v56 : BitVec 32 := Scalar.muli v55 c8_i32_29
  let c0_i32_36 : BitVec 32 := 0#32
  ![v58.toNat, 0, v56.toNat, 0]
def k0_off20 (i : grid0.Coords) : Fin 2 → Nat :=
  let c1_i32_37 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v13 : BitVec 32 := Scalar.remsi v1 c2_i32
  ![1, v13.toNat]
def k0_off21 (i : grid0.Coords) : Fin 3 → Nat :=
  let arg0 : BitVec 32 := BitVec.ofNat 32 (i 0).val
  let v71 : Index := Scalar.indexCast arg0
  let c0 : Index := 0#32
  let c0_43 : Index := 0#32
  ![v71.toNat, 0, 0]
def k0_off22 (i : grid0.Coords) (d2 : Dev nD) : Fin 3 → Nat :=
  let v2 : BitVec 32 := Dev.word d2
  let c1_i32 : BitVec 32 := 1#32
  let v3 : BitVec 32 := Scalar.divsi v2 c1_i32
  let c8_i32_0 : BitVec 32 := 8#32
  let v4 : BitVec 32 := Scalar.remsi v3 c8_i32_0
  let arg1 : BitVec 32 := BitVec.ofNat 32 (i 1).val
  let v10 : BitVec 32 := Scalar.subi v4 arg1
  let c8_i32_6 : BitVec 32 := 8#32
  let v11 : BitVec 32 := Scalar.addi v10 c8_i32_6
  let c8_i32_7 : BitVec 32 := 8#32
  let v12 : BitVec 32 := Scalar.remsi v11 c8_i32_7
  let v74 : Index := Scalar.indexCast v12
  let c0_44 : Index := 0#32
  let c0_45 : Index := 0#32
  ![v74.toNat, 0, 0]
def k0_off23 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v13 : BitVec 32 := Scalar.remsi v1 c2_i32
  let v137 : Index := Scalar.indexCast v13
  let c0_61 : Index := 0#32
  let c0_62 : Index := 0#32
  let c0_63 : Index := 0#32
  ![v137.toNat, 0, 0, 0]
def k0_off24 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v13 : BitVec 32 := Scalar.remsi v1 c2_i32
  let v158 : Index := Scalar.indexCast v13
  let c0_71 : Index := 0#32
  let c1 : Index := 1#32
  let c0_72 : Index := 0#32
  ![v158.toNat, 0, 1, 0]
def k0_off25 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v13 : BitVec 32 := Scalar.remsi v1 c2_i32
  let v179 : Index := Scalar.indexCast v13
  let c0_80 : Index := 0#32
  let c2 : Index := 2#32
  let c0_81 : Index := 0#32
  ![v179.toNat, 0, 2, 0]
def k0_off26 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v13 : BitVec 32 := Scalar.remsi v1 c2_i32
  let v200 : Index := Scalar.indexCast v13
  let c0_89 : Index := 0#32
  let c3 : Index := 3#32
  let c0_90 : Index := 0#32
  ![v200.toNat, 0, 3, 0]
def k0_off27 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v13 : BitVec 32 := Scalar.remsi v1 c2_i32
  let v221 : Index := Scalar.indexCast v13
  let c0_98 : Index := 0#32
  let c4 : Index := 4#32
  let c0_99 : Index := 0#32
  ![v221.toNat, 0, 4, 0]
def k0_off28 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v13 : BitVec 32 := Scalar.remsi v1 c2_i32
  let v242 : Index := Scalar.indexCast v13
  let c0_107 : Index := 0#32
  let c5 : Index := 5#32
  let c0_108 : Index := 0#32
  ![v242.toNat, 0, 5, 0]
def k0_off29 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v13 : BitVec 32 := Scalar.remsi v1 c2_i32
  let v263 : Index := Scalar.indexCast v13
  let c0_116 : Index := 0#32
  let c6 : Index := 6#32
  let c0_117 : Index := 0#32
  ![v263.toNat, 0, 6, 0]
def k0_off30 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v13 : BitVec 32 := Scalar.remsi v1 c2_i32
  let v284 : Index := Scalar.indexCast v13
  let c0_125 : Index := 0#32
  let c7 : Index := 7#32
  let c0_126 : Index := 0#32
  ![v284.toNat, 0, 7, 0]
def k0_off31 (i : grid0.Coords) (d2 : Dev nD) : Fin 3 → Nat :=
  let v2 : BitVec 32 := Dev.word d2
  let c1_i32 : BitVec 32 := 1#32
  let v3 : BitVec 32 := Scalar.divsi v2 c1_i32
  let c8_i32_0 : BitVec 32 := 8#32
  let v4 : BitVec 32 := Scalar.remsi v3 c8_i32_0
  let arg1 : BitVec 32 := BitVec.ofNat 32 (i 1).val
  let v10 : BitVec 32 := Scalar.subi v4 arg1
  let c8_i32_6 : BitVec 32 := 8#32
  let v11 : BitVec 32 := Scalar.addi v10 c8_i32_6
  let c8_i32_7 : BitVec 32 := 8#32
  let v12 : BitVec 32 := Scalar.remsi v11 c8_i32_7
  let v305 : Index := Scalar.indexCast v12
  let c0_134 : Index := 0#32
  let c0_135 : Index := 0#32
  ![v305.toNat, 0, 0]
def k0_cond5 (i : grid0.Coords) : BitVec 1 :=
  let arg1 : BitVec 32 := BitVec.ofNat 32 (i 1).val
  let c0_i32_137 : BitVec 32 := 0#32
  let v309 : BitVec 1 := Scalar.cmpi .eq arg1 c0_i32_137
  let v310 : BitVec 32 := Scalar.extui v309
  let c0_i32_138 : BitVec 32 := 0#32
  let v311 : BitVec 1 := Scalar.cmpi .ne v310 c0_i32_138
  v311

def k0_cond6 (i : grid0.Coords) : BitVec 1 :=
  let arg1 : BitVec 32 := BitVec.ofNat 32 (i 1).val
  let c0_i32_139 : BitVec 32 := 0#32
  let v312 : BitVec 1 := Scalar.cmpi .ne arg1 c0_i32_139
  let v313 : BitVec 32 := Scalar.extui v312
  let c0_i32_140 : BitVec 32 := 0#32
  let v314 : BitVec 1 := Scalar.cmpi .ne v313 c0_i32_140
  v314

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S16x512x768 : Shape := ⟨3, ![16, 512, 768]⟩
abbrev S768x4096 : Shape := ⟨2, ![768, 4096]⟩
abbrev S16x512x64x64 : Shape := ⟨4, ![16, 512, 64, 64]⟩
abbrev S4096x768 : Shape := ⟨2, ![4096, 768]⟩
abbrev S16x512x4096 : Shape := ⟨3, ![16, 512, 4096]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S16x64x512x512 : Shape := ⟨4, ![16, 64, 512, 512]⟩
abbrev S1x1x512x512 : Shape := ⟨4, ![1, 1, 512, 512]⟩
abbrev S16x64x512 : Shape := ⟨3, ![16, 64, 512]⟩
abbrev S16x64x512x1 : Shape := ⟨4, ![16, 64, 512, 1]⟩
abbrev S1x1x512x1 : Shape := ⟨4, ![1, 1, 512, 1]⟩
abbrev S16x64x64x512 : Shape := ⟨4, ![16, 64, 64, 512]⟩

abbrev nBuf : Space → Nat
  | .hbm => 137
  | .vmem => 0
  | .smem => 0
  | _ => 0

abbrev hbmTy0_0 (i : Nat) : BufTy := match i % 128 with
  | 0 => ⟨S16x512x768, .f32⟩
  | 1 => ⟨S768x4096, .f32⟩
  | 2 => ⟨S16x512x64x64, .f32⟩
  | 3 => ⟨S16x512x64x64, .f32⟩
  | 4 => ⟨S4096x768, .f32⟩
  | 5 => ⟨S16x512x4096, .f32⟩
  | 6 => ⟨S16x512x64x64, .f32⟩
  | 7 => ⟨S512, .i32⟩
  | 8 => ⟨S_, .i32⟩
  | 9 => ⟨S_, .i32⟩
  | 10 => ⟨S512, .i32⟩
  | 11 => ⟨S512, .i32⟩
  | 12 => ⟨S512, .i32⟩
  | 13 => ⟨S_, .i32⟩
  | 14 => ⟨S512, .i32⟩
  | 15 => ⟨S512, .i1⟩
  | 16 => ⟨S512, .i32⟩
  | 17 => ⟨S512, .i32⟩
  | 18 => ⟨S_, .i32⟩
  | 19 => ⟨S512, .i32⟩
  | 20 => ⟨S512, .i1⟩
  | 21 => ⟨S512, .i1⟩
  | 22 => ⟨S_, .i32⟩
  | 23 => ⟨S512, .i32⟩
  | 24 => ⟨S512, .i32⟩
  | 25 => ⟨S512, .i32⟩
  | 26 => ⟨S512x1, .i32⟩
  | 27 => ⟨S512, .i32⟩
  | 28 => ⟨S_, .i32⟩
  | 29 => ⟨S_, .i32⟩
  | 30 => ⟨S512, .i32⟩
  | 31 => ⟨S512, .i32⟩
  | 32 => ⟨S512, .i32⟩
  | 33 => ⟨S_, .i32⟩
  | 34 => ⟨S512, .i32⟩
  | 35 => ⟨S512, .i1⟩
  | 36 => ⟨S512, .i32⟩
  | 37 => ⟨S512, .i32⟩
  | 38 => ⟨S_, .i32⟩
  | 39 => ⟨S512, .i32⟩
  | 40 => ⟨S512, .i1⟩
  | 41 => ⟨S512, .i1⟩
  | 42 => ⟨S_, .i32⟩
  | 43 => ⟨S512, .i32⟩
  | 44 => ⟨S512, .i32⟩
  | 45 => ⟨S512, .i32⟩
  | 46 => ⟨S1x512, .i32⟩
  | 47 => ⟨S512x512, .i32⟩
  | 48 => ⟨S512x512, .i32⟩
  | 49 => ⟨S512x512, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x512, .i32⟩
  | 57 => ⟨S1x512, .i32⟩
  | 58 => ⟨S_, .i32⟩
  | 59 => ⟨S1x512, .i32⟩
  | 60 => ⟨S1x512, .i1⟩
  | 61 => ⟨S_, .i32⟩
  | 62 => ⟨S1x512, .i32⟩
  | 63 => ⟨S1x512, .i1⟩
  | 64 => ⟨S_, .i32⟩
  | 65 => ⟨S_, .i1⟩
  | 66 => ⟨S1x512, .i1⟩
  | 67 => ⟨S1x512, .i1⟩
  | 68 => ⟨S1x512, .i1⟩
  | 69 => ⟨S1x512, .i32⟩
  | 70 => ⟨S1x512, .i32⟩
  | 71 => ⟨S1x512, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S512x1, .i32⟩
  | 79 => ⟨S512x1, .i32⟩
  | 80 => ⟨S_, .i32⟩
  | 81 => ⟨S512x1, .i32⟩
  | 82 => ⟨S512x1, .i1⟩
  | 83 => ⟨S_, .i32⟩
  | 84 => ⟨S512x1, .i32⟩
  | 85 => ⟨S512x1, .i1⟩
  | 86 => ⟨S_, .i32⟩
  | 87 => ⟨S_, .i1⟩
  | 88 => ⟨S512x1, .i1⟩
  | 89 => ⟨S512x1, .i1⟩
  | 90 => ⟨S512x1, .i1⟩
  | 91 => ⟨S512x1, .i32⟩
  | 92 => ⟨S512x1, .i32⟩
  | 93 => ⟨S512x1, .i32⟩
  | 94 => ⟨S512x512, .i32⟩
  | 95 => ⟨S512x512, .i32⟩
  | 96 => ⟨S512x512, .i1⟩
  | 97 => ⟨S512x512, .i1⟩
  | 98 => ⟨S16x64x512x512, .f32⟩
  | 99 => ⟨S_, .f32⟩
  | 100 => ⟨S16x64x512x512, .f32⟩
  | 101 => ⟨S16x64x512x512, .f32⟩
  | 102 => ⟨S1x1x512x512, .i1⟩
  | 103 => ⟨S_, .f32⟩
  | 104 => ⟨S_, .f32⟩
  | 105 => ⟨S16x64x512x512, .i1⟩
  | 106 => ⟨S16x64x512x512, .f32⟩
  | 107 => ⟨S16x64x512x512, .f32⟩
  | 108 => ⟨S_, .f32⟩
  | 109 => ⟨S16x64x512, .f32⟩
  | 110 => ⟨S16x64x512x1, .f32⟩
  | 111 => ⟨S16x64x512x512, .f32⟩
  | 112 => ⟨S16x64x512x512, .f32⟩
  | 113 => ⟨S16x64x512x512, .f32⟩
  | 114 => ⟨S_, .i1⟩
  | 115 => ⟨S512, .i1⟩
  | 116 => ⟨S1x1x512x1, .i1⟩
  | 117 => ⟨S_, .f32⟩
  | 118 => ⟨S16x64x512, .f32⟩
  | 119 => ⟨S16x64x512x1, .f32⟩
  | 120 => ⟨S_, .f32⟩
  | 121 => ⟨S_, .f32⟩
  | 122 => ⟨S16x64x512x1, .i1⟩
  | 123 => ⟨S16x64x512x1, .f32⟩
  | 124 => ⟨S16x64x512x1, .f32⟩
  | 125 => ⟨S16x64x512x512, .f32⟩
  | 126 => ⟨S16x64x512x512, .f32⟩
  | 127 => ⟨S1x1x512x1, .i1⟩
  | _ => ⟨S16x512x768, .f32⟩

abbrev hbmTy0_1 (i : Nat) : BufTy := match i % 128 with
  | 0 => ⟨S_, .f32⟩
  | 1 => ⟨S_, .f32⟩
  | 2 => ⟨S16x64x512x512, .i1⟩
  | 3 => ⟨S16x64x512x512, .f32⟩
  | 4 => ⟨S16x64x512x512, .f32⟩
  | 5 => ⟨S16x64x64x512, .f32⟩
  | 6 => ⟨S16x512x64x64, .f32⟩
  | 7 => ⟨S16x512x4096, .f32⟩
  | 8 => ⟨S16x512x768, .f32⟩
  | _ => ⟨S16x512x768, .f32⟩

abbrev hbmTy (i : Nat) : BufTy := match i / 128 with
  | 0 => hbmTy0_0 i
  | 1 => hbmTy0_1 i
  | _ => ⟨S16x512x768, .f32⟩

abbrev bufTy : (tb : Table) → Fin (tcTables nBuf tb) → BufTy
  | .hbm, ⟨i, _⟩ => hbmTy i
  | _, _ => ⟨S16x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Cells.lean ====
/-
# The kernel's places: neighbours, slots, semaphores

Eight devices stand on a ring. Each holds two gathered arrays of eight slots, one of query columns and one of
output rows; slot `k` is for device `k`'s block. Hop `h` (of seven) of either ring carries slot `c - h` of device
`c` to the same slot of its right neighbour; it has a send and a receive semaphore of its own. Keys and values are
copied block by block from the device's own memory into a buffer of two halves.

This module names these places and states the arithmetic of the printed offsets.
-/
module

public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.RingProof

open Cert.KernelIdeal Cert.KernelIdeal.Gen
open Idealize.ShloMosaic Idealize.ShloMosaic.TcCoe

/-! ## Neighbours and slots -/

/-- The right neighbour on the ring. -/
def right (c : Dev nD) : Dev nD := ⟨(c.val + 1) % 8, Nat.mod_lt _ (by decide)⟩
/-- The left neighbour on the ring. -/
def left (c : Dev nD) : Dev nD := ⟨(c.val + 7) % 8, Nat.mod_lt _ (by decide)⟩

theorem left_right (c : Dev nD) : left (right c) = c := by revert c; decide
theorem right_left (c : Dev nD) : right (left c) = c := by revert c; decide

/-- One step to the right as a permutation of the devices. -/
def rightE : Dev nD ≃ Dev nD := ⟨right, left, left_right, right_left⟩
def leftE : Dev nD ≃ Dev nD := ⟨left, right, right_left, left_right⟩

/-- The slot `n` places back from device `c`. -/
def back (c : Dev nD) (n : ℕ) : Fin 8 := ⟨(c.val + 8 - n % 8) % 8, Nat.mod_lt _ (by decide)⟩

theorem back_zero (c : Dev nD) : back c 0 = c := by revert c; decide
theorem back_right (c : Dev nD) (h : Fin 7) : back (right c) (h.val + 1) = back c h.val := by revert c h; decide
theorem back_inj (c : Dev nD) : Function.Injective fun n : Fin 8 => back c n.val := by revert c; decide
/-- Going back by each of the eight distances meets every slot once. -/
def backE (c : Dev nD) : Fin 8 ≃ Fin 8 := Equiv.ofBijective (fun n => back c n.val) (Finite.injective_iff_bijective.mp (back_inj c))

/-! ## The grid's coordinates and the printed conditions -/

theorem co_0 : ∀ t : Fin cfg0.N, (grid0.coords t 0).val = t.val / 8 := by decide +kernel
theorem co_1 : ∀ t : Fin cfg0.N, (grid0.coords t 1).val = t.val % 8 := by decide +kernel

theorem cond1_iff : ∀ t : Fin cfg0.N, k0_cond1 (grid0.coords t) = 1#1 ↔ t.val = 0 := by decide +kernel
theorem cond2_iff : ∀ t : Fin cfg0.N, k0_cond2 (grid0.coords t) = 1#1 ↔ (1 ≤ t.val ∧ t.val < 8) := by decide +kernel
theorem cond3_iff : ∀ t : Fin cfg0.N, k0_cond3 (grid0.coords t) = 1#1 ↔ t.val < 7 := by decide +kernel
theorem cond4_iff : ∀ t : Fin cfg0.N, k0_cond4 (grid0.coords t) = 1#1 ↔ t.val < 15 := by decide +kernel
theorem cond5_iff : ∀ t : Fin cfg0.N, k0_cond5 (grid0.coords t) = 1#1 ↔ t.val % 8 = 0 := by decide +kernel
theorem cond6_iff : ∀ t : Fin cfg0.N, k0_cond6 (grid0.coords t) = 1#1 ↔ t.val % 8 ≠ 0 := by decide +kernel

/-! ## The printed offsets, at a point -/

theorem off1_at : ∀ t : Fin cfg0.N, k0_off1 (grid0.coords t) = ![0, t.val % 2] := by decide +kernel
theorem off2_at : ∀ t : Fin cfg0.N, k0_off2 (grid0.coords t) = ![t.val % 2, 0, 0, 0] := by decide +kernel
theorem off3_at : ∀ (t : Fin cfg0.N) (d : Dev nD), k0_off3 (grid0.coords t) d = ![2 * d.val + t.val / 8, 0, 8 * (back d t.val).val, 0] := by decide +kernel
theorem off4_at : ∀ t : Fin cfg0.N, k0_off4 (grid0.coords t) = ![1, t.val % 2] := by decide +kernel
theorem off5_at : ∀ d : Dev nD, k0_off5 d = ![(back d 0).val, 0, 0] := by decide +kernel
theorem off6_at : ∀ d : Dev nD, k0_off6 d = ![(back d 0).val, 0, 0] := by decide +kernel
theorem off7_at : ∀ t : Fin cfg0.N, (1 ≤ t.val ∧ t.val < 8) → k0_off7 (grid0.coords t) = ![t.val - 1] := by decide +kernel
theorem off8_at : ∀ (t : Fin cfg0.N) (d : Dev nD), k0_off8 (grid0.coords t) d = ![(back d t.val).val, 0, 0] := by decide +kernel
theorem off9_at : ∀ (t : Fin cfg0.N) (d : Dev nD), k0_off9 (grid0.coords t) d = ![(back d t.val).val, 0, 0] := by decide +kernel
theorem off10_at : ∀ t : Fin cfg0.N, t.val < 8 → k0_off10 (grid0.coords t) = ![t.val] := by decide +kernel
theorem off11_at : ∀ (t : Fin cfg0.N) (d : Dev nD), k0_off11 (grid0.coords t) d = ![(back d t.val).val, 0, 0] := by decide +kernel
theorem off12_at : ∀ (t : Fin cfg0.N) (d : Dev nD), k0_off12 (grid0.coords t) d = ![(back d t.val).val, 0, 0] := by decide +kernel
theorem off13_at : ∀ t : Fin cfg0.N, k0_off13 (grid0.coords t) = ![0, (t.val + 1) % 2] := by decide +kernel
theorem off14_at : ∀ t : Fin cfg0.N, k0_off14 (grid0.coords t) = ![(t.val + 1) % 2, 0, 0, 0] := by decide +kernel
theorem off15_at : ∀ (t : Fin cfg0.N) (d : Dev nD), k0_off15 (grid0.coords t) d = ![2 * d.val + (t.val + 1) / 8, 0, 8 * (back d (t.val + 1)).val, 0] := by decide +kernel
theorem off16_at : ∀ t : Fin cfg0.N, k0_off16 (grid0.coords t) = ![1, (t.val + 1) % 2] := by decide +kernel
theorem off17_at : ∀ t : Fin cfg0.N, k0_off17 (grid0.coords t) = ![0, t.val % 2] := by decide +kernel
theorem off18_at : ∀ t : Fin cfg0.N, k0_off18 (grid0.coords t) = ![t.val % 2, 0, 0, 0] := by decide +kernel
theorem off19_at : ∀ (t : Fin cfg0.N) (d : Dev nD), k0_off19 (grid0.coords t) d = ![2 * d.val + t.val / 8, 0, 8 * (back d t.val).val, 0] := by decide +kernel
theorem off20_at : ∀ t : Fin cfg0.N, k0_off20 (grid0.coords t) = ![1, t.val % 2] := by decide +kernel
theorem off21_at : ∀ t : Fin cfg0.N, k0_off21 (grid0.coords t) = ![t.val / 8, 0, 0] := by decide +kernel
theorem off22_at : ∀ (t : Fin cfg0.N) (d : Dev nD), k0_off22 (grid0.coords t) d = ![(back d t.val).val, 0, 0] := by decide +kernel
theorem off31_at : ∀ (t : Fin cfg0.N) (d : Dev nD), k0_off31 (grid0.coords t) d = ![(back d t.val).val, 0, 0] := by decide +kernel
theorem off23_at : ∀ t : Fin cfg0.N, k0_off23 (grid0.coords t) = ![t.val % 2, 0, 0, 0] := by decide +kernel
theorem off24_at : ∀ t : Fin cfg0.N, k0_off24 (grid0.coords t) = ![t.val % 2, 0, 1, 0] := by decide +kernel
theorem off25_at : ∀ t : Fin cfg0.N, k0_off25 (grid0.coords t) = ![t.val % 2, 0, 2, 0] := by decide +kernel
theorem off26_at : ∀ t : Fin cfg0.N, k0_off26 (grid0.coords t) = ![t.val % 2, 0, 3, 0] := by decide +kernel
theorem off27_at : ∀ t : Fin cfg0.N, k0_off27 (grid0.coords t) = ![t.val % 2, 0, 4, 0] := by decide +kernel
theorem off28_at : ∀ t : Fin cfg0.N, k0_off28 (grid0.coords t) = ![t.val % 2, 0, 5, 0] := by decide +kernel
theorem off29_at : ∀ t : Fin cfg0.N, k0_off29 (grid0.coords t) = ![t.val % 2, 0, 6, 0] := by decide +kernel
theorem off30_at : ∀ t : Fin cfg0.N, k0_off30 (grid0.coords t) = ![t.val % 2, 0, 7, 0] := by decide +kernel

theorem dev1_at (c : Dev nD) (h : k0_dev1 c < nD) : (⟨k0_dev1 c, h⟩ : Dev nD) = left c := Fin.ext (k0_dev1_eq c)
theorem dev2_at (c : Dev nD) (h : k0_dev2 c < nD) : (⟨k0_dev2 c, h⟩ : Dev nD) = right c := Fin.ext (k0_dev2_eq c)
theorem dev3_at (c : Dev nD) (h : k0_dev3 c < nD) : (⟨k0_dev3 c, h⟩ : Dev nD) = right c := Fin.ext (k0_dev3_eq c)
theorem dev4_at (c : Dev nD) (h : k0_dev4 c < nD) : (⟨k0_dev4 c, h⟩ : Dev nD) = right c := Fin.ext (k0_dev4_eq c)

/-! ## The slots of the gathered arrays

`false` is the query-column array, `true` the output-row array. -/

abbrev gsh : Bool → Shape
  | false => S768x512
  | true => S512x768

abbrev gref : Bool → Ref sig .tc
  | false => cc0_scratch1
  | true => cc0_scratch2

theorem slot_inb0 (k : Fin 8) : ∀ a, (![k.val, 0, 0] : Fin 3 → ℕ) a + S1x768x512.size a ≤ S8x768x512.size a := by revert k; decide
theorem slot_inb1 (k : Fin 8) : ∀ a, (![k.val, 0, 0] : Fin 3 → ℕ) a + S1x512x768.size a ≤ S8x512x768.size a := by revert k; decide

/-- Slot `k` of a gathered array, as the copies name it. -/
abbrev gslot : (o : Bool) → Fin 8 → Memref sig .tc .vmem (gsh o) .bf16
  | false, k => ((Memref.whole cc0_scratch1).slice (Rect.unit (s := S8x768x512) ![k.val, 0, 0] S1x768x512.size (slot_inb0 k)) (fun _ => rfl)).squeeze S768x512 squeezes_S1x768x512_S768x512
  | true, k => ((Memref.whole cc0_scratch2).slice (Rect.unit (s := S8x512x768) ![k.val, 0, 0] S1x512x768.size (slot_inb1 k)) (fun _ => rfl)).squeeze S512x768 squeezes_S1x512x768_S512x768

/-- The printed slice of the query array at offsets equal to slot `k`'s is slot `k`. -/
theorem gslot0_of {off : Fin 3 → ℕ} (k : Fin 8) (h : off = ![k.val, 0, 0]) (p) :
    ((Memref.whole cc0_scratch1).slice (Rect.unit (s := S8x768x512) off S1x768x512.size p) (fun _ => rfl)).squeeze S768x512 squeezes_S1x768x512_S768x512 = gslot false k := by
  subst h; rfl
theorem gslot1_of {off : Fin 3 → ℕ} (k : Fin 8) (h : off = ![k.val, 0, 0]) (p) :
    ((Memref.whole cc0_scratch2).slice (Rect.unit (s := S8x512x768) off S1x512x768.size p) (fun _ => rfl)).squeeze S512x768 squeezes_S1x512x768_S512x768 = gslot true k := by
  subst h; rfl

/-- A slot's elements are those whose first coordinate is the slot's number. -/
theorem mem_gslot0 (k : Fin 8) (i : S8x768x512.Idx) : i ∈ (gslot false k).view.set ↔ i 0 = k := by
  have h : (gslot false k).view.set = (Rect.unit (s := S8x768x512) ![k.val, 0, 0] S1x768x512.size (slot_inb0 k)).set := by
    show (((View.whole cc0_scratch1).slice _).reshape _ _).set = _
    rw [View.set_reshape, View.set_slice_whole]
  rw [h, Rect.mem_set_unit, Fin.forall_fin_succ, Fin.forall_fin_two]
  have h1 := (i 1).isLt; have h2 := (i 2).isLt
  constructor
  · rintro ⟨⟨ha, hb⟩, -⟩
    have ha' : k.val ≤ (i 0).val := ha
    have hb' : (i 0).val < k.val + 1 := hb
    exact Fin.ext (by show (i 0).val = k.val; omega)
  · intro hk
    have hk' : (i 0).val = k.val := congrArg Fin.val hk
    exact ⟨⟨hk'.ge, show (i 0).val < k.val + 1 by omega⟩, ⟨Nat.zero_le _, show (i 1).val < 0 + 768 by have : (i 1).val < 768 := h1; omega⟩,
      Nat.zero_le _, show (i 2).val < 0 + 512 by have : (i 2).val < 512 := h2; omega⟩
theorem mem_gslot1 (k : Fin 8) (i : S8x512x768.Idx) : i ∈ (gslot true k).view.set ↔ i 0 = k := by
  have h : (gslot true k).view.set = (Rect.unit (s := S8x512x768) ![k.val, 0, 0] S1x512x768.size (slot_inb1 k)).set := by
    show (((View.whole cc0_scratch2).slice _).reshape _ _).set = _
    rw [View.set_reshape, View.set_slice_whole]
  rw [h, Rect.mem_set_unit, Fin.forall_fin_succ, Fin.forall_fin_two]
  have h1 := (i 1).isLt; have h2 := (i 2).isLt
  constructor
  · rintro ⟨⟨ha, hb⟩, -⟩
    have ha' : k.val ≤ (i 0).val := ha
    have hb' : (i 0).val < k.val + 1 := hb
    exact Fin.ext (by show (i 0).val = k.val; omega)
  · intro hk
    have hk' : (i 0).val = k.val := congrArg Fin.val hk
    exact ⟨⟨hk'.ge, show (i 0).val < k.val + 1 by omega⟩, ⟨Nat.zero_le _, show (i 1).val < 0 + 512 by have : (i 1).val < 512 := h1; omega⟩,
      Nat.zero_le _, show (i 2).val < 0 + 768 by have : (i 2).val < 768 := h2; omega⟩

/-- What one hop of a ring credits its semaphores. -/
abbrev hopN (o : Bool) : ℕ := (gslot o 0).view.dmaCredit
theorem hopN_pos (o : Bool) : 0 < hopN o := View.dmaCredit_pos _ (by cases o <;> decide)
theorem gslot_credit (o : Bool) (k : Fin 8) : (gslot o k).view.dmaCredit = hopN o := by cases o <;> rfl

/-! ## The semaphores -/

/-- Hop `h`'s semaphore of ring `o`: the receive one if `r`, else the send one. -/
abbrev ringSem (o r : Bool) (h : Fin 7) : DmaSem sig := ⟨5 + 14 * o.toNat + 7 * r.toNat + h.val, by
  have := h.isLt; have h1 := o.toNat_le; have h2 := r.toNat_le; show _ < 37; omega⟩
/-- The semaphore of the key (`false`) or value (`true`) copies into half `p`. -/
abbrev kvSem (a : Bool) (p : Fin 2) : DmaSem sig := ⟨33 + 2 * a.toNat + p.val, by
  have := p.isLt; have h1 := a.toNat_le; show _ < 37; omega⟩

abbrev barS : Sem sig := (SemArray.scalar (sig.barrier 0 rfl) : Sems sig S_).sem

theorem s7_inb (h : Fin 7) : ∀ a, (![h.val] : Fin 1 → ℕ) a + S1.size a ≤ S7.size a := by revert h; decide

theorem ss_q_of {off : Fin 1 → ℕ} (h : Fin 7) (e : off = ![h.val]) (p) :
    ((cc0_scratch5.slice (Rect.unit (s := S7) off S1.size p)).squeeze S_ squeezes_S1_S_).sem = ringSem false false h := by
  subst e; revert h; decide
theorem rs_q_of {off : Fin 1 → ℕ} (h : Fin 7) (e : off = ![h.val]) (p) :
    ((cc0_scratch6.slice (Rect.unit (s := S7) off S1.size p)).squeeze S_ squeezes_S1_S_).sem = ringSem false true h := by
  subst e; revert h; decide
theorem ss_o_of {off : Fin 1 → ℕ} (h : Fin 7) (e : off = ![h.val]) (p) :
    ((cc0_scratch7.slice (Rect.unit (s := S7) off S1.size p)).squeeze S_ squeezes_S1_S_).sem = ringSem true false h := by
  subst e; revert h; decide
theorem rs_o_of {off : Fin 1 → ℕ} (h : Fin 7) (e : off = ![h.val]) (p) :
    ((cc0_scratch8.slice (Rect.unit (s := S7) off S1.size p)).squeeze S_ squeezes_S1_S_).sem = ringSem true true h := by
  subst e; revert h; decide
theorem kv_of {off : Fin 2 → ℕ} (a : Bool) (q : Fin 2) (e : off = ![a.toNat, q.val]) (p) :
    ((cc0_scratch9.slice (Rect.unit (s := S2x2) off S1x1.size p)).squeeze S_ squeezes_S1x1_S_).sem = kvSem a q := by
  subst e; revert a q; decide

/-! ## The key and value blocks -/

abbrev href : Bool → Ref sig .tc
  | false => main_arg2
  | true => main_arg3
abbrev bref : Bool → Ref sig .tc
  | false => cc0_scratch3
  | true => cc0_scratch4

theorem half_inb (p : Fin 2) : ∀ a, (![p.val, 0, 0, 0] : Fin 4 → ℕ) a + S1x512x8x64.size a ≤ S2x512x8x64.size a := by revert p; decide
theorem src_inb (c : Dev nD) (n : Fin 16) : ∀ a, (![2 * c.val + n.val / 8, 0, 8 * (back c n.val).val, 0] : Fin 4 → ℕ) a + S1x512x8x64.size a ≤ S16x512x64x64.size a := by
  revert c n; decide

/-- Half `p` of the key or value buffer, as the copies name it. -/
abbrev kvBuf : (a : Bool) → Fin 2 → Memref sig .tc .vmem S512x8x64 .f32
  | false, p => ((Memref.whole cc0_scratch3).slice (Rect.unit (s := S2x512x8x64) ![p.val, 0, 0, 0] S1x512x8x64.size (half_inb p)) (fun _ => rfl)).squeeze S512x8x64 squeezes_S1x512x8x64_S512x8x64
  | true, p => ((Memref.whole cc0_scratch4).slice (Rect.unit (s := S2x512x8x64) ![p.val, 0, 0, 0] S1x512x8x64.size (half_inb p)) (fun _ => rfl)).squeeze S512x8x64 squeezes_S1x512x8x64_S512x8x64
/-- Step `n`'s block of the key or value array on device `c`, as the copies name it. -/
abbrev kvSrc : (a : Bool) → Dev nD → Fin 16 → Memref sig .tc .hbm S512x8x64 .f32
  | false, c, n => ((Memref.whole main_arg2).slice (Rect.unit (s := S16x512x64x64) ![2 * c.val + n.val / 8, 0, 8 * (back c n.val).val, 0] S1x512x8x64.size (src_inb c n)) (fun _ => rfl)).squeeze S512x8x64 squeezes_S1x512x8x64_S512x8x64
  | true, c, n => ((Memref.whole main_arg3).slice (Rect.unit (s := S16x512x64x64) ![2 * c.val + n.val / 8, 0, 8 * (back c n.val).val, 0] S1x512x8x64.size (src_inb c n)) (fun _ => rfl)).squeeze S512x8x64 squeezes_S1x512x8x64_S512x8x64

theorem kvBuf0_of {off : Fin 4 → ℕ} (q : Fin 2) (h : off = ![q.val, 0, 0, 0]) (p) :
    ((Memref.whole cc0_scratch3).slice (Rect.unit (s := S2x512x8x64) off S1x512x8x64.size p) (fun _ => rfl)).squeeze S512x8x64 squeezes_S1x512x8x64_S512x8x64 = kvBuf false q := by
  subst h; rfl
theorem kvBuf1_of {off : Fin 4 → ℕ} (q : Fin 2) (h : off = ![q.val, 0, 0, 0]) (p) :
    ((Memref.whole cc0_scratch4).slice (Rect.unit (s := S2x512x8x64) off S1x512x8x64.size p) (fun _ => rfl)).squeeze S512x8x64 squeezes_S1x512x8x64_S512x8x64 = kvBuf true q := by
  subst h; rfl
theorem kvSrc0_of {off : Fin 4 → ℕ} (c : Dev nD) (n : Fin 16) (h : off = ![2 * c.val + n.val / 8, 0, 8 * (back c n.val).val, 0]) (p) :
    ((Memref.whole main_arg2).slice (Rect.unit (s := S16x512x64x64) off S1x512x8x64.size p) (fun _ => rfl)).squeeze S512x8x64 squeezes_S1x512x8x64_S512x8x64 = kvSrc false c n := by
  subst h; rfl
theorem kvSrc1_of {off : Fin 4 → ℕ} (c : Dev nD) (n : Fin 16) (h : off = ![2 * c.val + n.val / 8, 0, 8 * (back c n.val).val, 0]) (p) :
    ((Memref.whole main_arg3).slice (Rect.unit (s := S16x512x64x64) off S1x512x8x64.size p) (fun _ => rfl)).squeeze S512x8x64 squeezes_S1x512x8x64_S512x8x64 = kvSrc true c n := by
  subst h; rfl

/-- What one key or value copy credits its semaphore. -/
abbrev kvN (a : Bool) : ℕ := (kvBuf a 0).view.dmaCredit
theorem kvN_pos (a : Bool) : 0 < kvN a := View.dmaCredit_pos _ (by cases a <;> decide)
theorem kvBuf_credit (a : Bool) (p : Fin 2) : (kvBuf a p).view.dmaCredit = kvN a := by cases a <;> rfl

theorem kvBuf0_set (p : Fin 2) : (kvBuf false p).view.set = (Rect.unit (s := S2x512x8x64) ![p.val, 0, 0, 0] S1x512x8x64.size (half_inb p)).set := by
  show (((View.whole cc0_scratch3).slice _).reshape _ _).set = _
  rw [View.set_reshape, View.set_slice_whole]
theorem kvBuf1_set (p : Fin 2) : (kvBuf true p).view.set = (Rect.unit (s := S2x512x8x64) ![p.val, 0, 0, 0] S1x512x8x64.size (half_inb p)).set := by
  show (((View.whole cc0_scratch4).slice _).reshape _ _).set = _
  rw [View.set_reshape, View.set_slice_whole]

/-- A half's elements are those whose first coordinate is the half's number. -/
theorem mem_half (p : Fin 2) (i : S2x512x8x64.Idx) : i ∈ (Rect.unit (s := S2x512x8x64) ![p.val, 0, 0, 0] S1x512x8x64.size (half_inb p)).set ↔ i 0 = p := by
  rw [Rect.mem_set_unit, Fin.forall_fin_succ, Fin.forall_fin_succ, Fin.forall_fin_two]
  have h1 : (i 1).val < 512 := (i 1).isLt
  have h2 : (i 2).val < 8 := (i 2).isLt
  have h3 : (i 3).val < 64 := (i 3).isLt
  constructor
  · rintro ⟨⟨ha, hb⟩, -⟩
    have ha' : p.val ≤ (i 0).val := ha
    have hb' : (i 0).val < p.val + 1 := hb
    exact Fin.ext (by show (i 0).val = p.val; omega)
  · intro hk
    have hk' : (i 0).val = p.val := congrArg Fin.val hk
    exact ⟨⟨hk'.ge, show (i 0).val < p.val + 1 by omega⟩, ⟨Nat.zero_le _, show (i 1).val < 0 + 512 by omega⟩,
      ⟨Nat.zero_le _, show (i 2).val < 0 + 8 by omega⟩, Nat.zero_le _, show (i 3).val < 0 + 64 by omega⟩

end Cert.RingProof

end
-- ==== Proof.Protocol.lean ====
/-
# The protocol: what each semaphore hands over

* The barrier of device `c` is signalled once by each neighbour and waited for once, for two units. The signal of the
  RIGHT neighbour hands `c` the seven slots of that neighbour's gathered arrays which `c` will write; the signal of the
  left one hands nothing.
* Hop `h` of a ring lends the left half of slot `c - h` to the send semaphore, which hands it back, and gives the right
  neighbour's receive semaphore that neighbour's slot `c - h`, holding device `c - h`'s block.
* A key or value copy is the device's own: its semaphore hands back the block and the half it was copied into.

The contents are told throughout: a gathered slot is only ever handed over at device `k`'s block.
-/
module

public import proofs.«01_k».proof.Proof.Cells
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-- The ghost state: the pipeline's, the rings' (two duties at most a round) and the local copies'. -/
abbrev UU : Type := UR sig nD τ × (Rounds.URounds (GSem nD τ sig) Bool × Counters)

local notation "𝕄" => MT nD τ sig Unit (Elt F) ℕ UU ℕ

abbrev EP : Emb (UR sig nD τ) (MT nD τ sig Unit (Elt F) ℕ UU ℕ) := embL
abbrev ER : Emb (Rounds.URounds (GSem nD τ sig) Bool) (MT nD τ sig Unit (Elt F) ℕ UU ℕ) :=
  (Emb.inl : Emb (Rounds.URounds (GSem nD τ sig) Bool) (Rounds.URounds (GSem nD τ sig) Bool × Counters)).trans embR
abbrev EC : UEmb Counters (MT nD τ sig Unit (Elt F) ℕ UU ℕ) := countersEmb (U := UU)
abbrev 𝒱₀ : Variants := Variants.none

variable (m : (ℓ : Loc nD τ sig) → Buf (Elt F) ℓ) (ρ : Dev nD → PrngReg)

/-! ## Contents -/

theorem N16 : cfg0.N = 16 := N_0
def pt0 : Fin cfg0.N := ⟨0, by rw [N16]; decide⟩

/-- The device's arrays as launched. -/
abbrev arr (c : Dev nD) (b : Ref sig .tc) : Buf (Elt F) ((c : Thread nD τ).loc b) := m ((c : Thread nD τ).loc b)

/-- Window `w`'s block at point `t`. -/
def blkAt (c : Dev nD) (w : Fin cfg0.W) (t : Fin cfg0.N) : ((cfg0.win w).xblock (cfg0.grid.coords t)).Idx → Elt F (cfg0.win w).elt :=
  ((cfg0.win w).blk t).view.read (Elt F) (arr m c (Pipeline.arrRef spec0 w))

/-- The device's activations, query weights and output weights, as staged. -/
def xS (c : Dev nD) : Vec F S2x512x768 .f32 := blkAt m c 0 pt0
def wqS (c : Dev nD) : Vec F S768x512 .f32 := blkAt m c 1 pt0
def woS (c : Dev nD) : Vec F S512x768 .f32 := blkAt m c 2 pt0

/-- The narrowed activations, and device `k`'s narrowed blocks of the two weight arrays. -/
def XB (c : Dev nD) : Vec F S2x512x768 .bf16 := k0_pay2 (xS m c)
def wqB (k : Dev nD) : Vec F S1x768x512 .bf16 := k0_pay3 (wqS m k)
def woB (k : Dev nD) : Vec F S1x512x768 .bf16 := k0_pay4 (woS m k)

/-- The gathered arrays when full: slot `k` holds device `k`'s block. -/
def QG : Vec F S8x768x512 .bf16 := fun i => wqB m (i 0) (ValueIdx.ix3 0 (i 1) (i 2))
def OG : Vec F S8x512x768 .bf16 := fun i => woB m (i 0) (ValueIdx.ix3 0 (i 1) (i 2))
def GG : (o : Bool) → (gref o).ty.Contents (Elt F)
  | false => QG m
  | true => OG m

/-- Elements of slot `k` of gathered array `o` of device `c`, at share `q` and contents `f`. -/
def slotPts : (o : Bool) → (c : Dev nD) → (k : Fin 8) → PosShare TreeShare → (gref o).ty.Contents (Elt F) → sProp 𝕄
  | false, c, k, q, f => (gslot false k).view.loc (c : Thread nD τ) ↦[(gslot false k).view.set]{q} f
  | true, c, k, q, f => (gslot true k).view.loc (c : Thread nD τ) ↦[(gslot true k).view.set]{q} f

omit [FloatOps F] in
instance slotPts_storable (o : Bool) (c : Dev nD) (k : Fin 8) (q) (f) : BI.Storable (upEmb : UEmb _ 𝕄) (slotPts (F := F) o c k q f) := by
  cases o <;> (unfold slotPts; infer_instance)

/-! ## The schedule of the rings -/

/-- A ring cell: the barrier, or hop `h`'s send (`r = false`) or receive semaphore of ring `o`. -/
abbrev CK : Type := Unit ⊕ (Bool × Bool × Fin 7)

abbrev semOf : CK → SemLoc sig
  | .inl _ => .reg barS
  | .inr (o, r, h) => .dma (ringSem o r h)

/-- Which ring cell a semaphore is, if one. -/
def kindOf : SemLoc sig → Option CK
  | .reg _ => some (.inl ())
  | .dma d => if 5 ≤ d.val ∧ d.val < 33 then some (.inr (decide (14 ≤ d.val - 5), decide (7 ≤ (d.val - 5) % 14), ⟨(d.val - 5) % 7, Nat.mod_lt _ (by decide)⟩)) else none

theorem kindOf_semOf : ∀ k : CK, kindOf (semOf k) = some k := by decide
theorem kindOf_kv : ∀ (a : Bool) (p : Fin 2), kindOf (.dma (kvSem a p)) = none := by decide
theorem semOf_inj : Function.Injective semOf := fun a b h => by
  have := congrArg kindOf h; rw [kindOf_semOf, kindOf_semOf] at this; exact Option.some.inj this

abbrev kcell (ck : Dev nD × CK) : GSem nD τ sig := ((ck.1 : Thread nD τ), semOf ck.2)
theorem kcell_injective : Function.Injective (kcell : Dev nD × CK → GSem nD τ sig) := by
  rintro ⟨c, k⟩ ⟨c', k'⟩ h
  have h1 : c = c' := by have := congrArg (fun g : GSem nD τ sig => g.1.1) h; exact this
  have h2 : k = k' := semOf_inj (congrArg Prod.snd h)
  rw [h1, h2]

abbrev barCell (c : Dev nD) : GSem nD τ sig := ((c : Thread nD τ), .reg barS)
abbrev hopCell (o r : Bool) (h : Fin 7) (c : Dev nD) : GSem nD τ sig := ((c : Thread nD τ), .dma (ringSem o r h))

/-- What the right neighbour's signal hands `c`: the slots of that neighbour which `c` will write. -/
def slotsFree (o : Bool) (c : Dev nD) : sProp 𝕄 := bigSep Finset.univ fun h : Fin 7 => iprop(∃ f, slotPts o (right c) (back c h.val) fullShare f)
def barPay (c : Dev nD) : Bool → sProp 𝕄
  | true => iprop(slotsFree (F := F) false c ∗ slotsFree (F := F) true c)
  | false => iprop(emp)

/-- What hop `h`'s semaphores of ring `o` hand device `c`. -/
def hopPay (o : Bool) : Bool → Fin 7 → Dev nD → sProp 𝕄
  | false, h, c => slotPts o c (back c h.val) fullShare.left (GG m o)
  | true, h, c => slotPts o c (back c (h.val + 1)) fullShare (GG m o)

def dutiesOf : Option CK → Finset Bool
  | some (.inl _) => {false, true}
  | some (.inr _) => {false}
  | none => ∅
def amountOf : Option CK → ℕ
  | some (.inr (o, _, _)) => hopN o
  | _ => 1
def payOf (c : Dev nD) : Option CK → Bool → sProp 𝕄
  | some (.inl _), d => barPay c d
  | some (.inr (o, r, h)), _ => hopPay m o r h c
  | none, _ => iprop(emp)

def ringRd : Rounds.Schedule (GSem nD τ sig) Bool 𝕄 where
  duties g r := if r = 0 ∧ g.1.2 = .tc then dutiesOf (kindOf g.2) else ∅
  unitless _ := False
  amount g _ _ := amountOf (kindOf g.2)
  payload g _ d := payOf m g.1.1 (kindOf g.2) d
  amount_pos g _ _ _ := by
    show 0 < amountOf (kindOf g.2)
    rcases kindOf g.2 with _ | _ | ⟨o, r, h⟩
    · exact Nat.one_pos
    · exact Nat.one_pos
    · exact hopN_pos o

omit [FloatOps F] in
instance slotsFree_storable (o : Bool) (c : Dev nD) : BI.Storable (upEmb : UEmb _ 𝕄) (slotsFree (F := F) o c) := by
  unfold slotsFree; infer_instance

instance ringRd_payload_storable (g : GSem nD τ sig) (r : ℕ) (d : Bool) : BI.Storable (upEmb : UEmb _ 𝕄) ((ringRd (F := F) m).payload g r d) := by
  show BI.Storable upEmb (payOf m g.1.1 (kindOf g.2) d)
  rcases kindOf g.2 with _ | _ | ⟨o, r, h⟩
  · show BI.Storable upEmb iprop(emp); infer_instance
  · cases d
    · show BI.Storable upEmb iprop(emp); infer_instance
    · show BI.Storable upEmb iprop(slotsFree (F := F) false g.1.1 ∗ slotsFree (F := F) true g.1.1); infer_instance
  · cases r
    · show BI.Storable upEmb (slotPts o g.1.1 (back g.1.1 h.val) fullShare.left (GG m o)); infer_instance
    · show BI.Storable upEmb (slotPts o g.1.1 (back g.1.1 (h.val + 1)) fullShare (GG m o)); infer_instance

section Sched
variable (c : Dev nD) (o r : Bool) (h : Fin 7)

theorem kind_bar : kindOf (.reg barS) = some (.inl ()) := rfl
theorem kind_hop : kindOf (.dma (ringSem o r h)) = some (.inr (o, r, h)) := kindOf_semOf (.inr (o, r, h))

theorem duties_bar : (ringRd (F := F) m).duties (barCell c) 0 = {false, true} := by
  dsimp only [ringRd]; rw [if_pos ⟨rfl, rfl⟩, kind_bar]; rfl
theorem duties_hop : (ringRd (F := F) m).duties (hopCell o r h c) 0 = {false} := by
  dsimp only [ringRd]; rw [if_pos ⟨rfl, rfl⟩, kind_hop]; rfl
theorem duties_later (g : GSem nD τ sig) : ∀ r, 1 ≤ r → (ringRd (F := F) m).duties g r = ∅ :=
  fun r hr => by dsimp only [ringRd]; exact if_neg fun h => by omega
theorem amount_bar (d : Bool) : (ringRd (F := F) m).amount (barCell c) 0 d = 1 := by dsimp only [ringRd]; rw [kind_bar]; rfl
theorem amount_hop (d : Bool) : (ringRd (F := F) m).amount (hopCell o r h c) 0 d = hopN o := by dsimp only [ringRd]; rw [kind_hop]; rfl
theorem expect_bar : (ringRd (F := F) m).expect (barCell c) 0 = 2 := by
  unfold Schedule.expect Schedule.amountOf; rw [duties_bar, Finset.sum_congr rfl fun d _ => amount_bar m c d]; rfl
theorem expect_hop : (ringRd (F := F) m).expect (hopCell o r h c) 0 = hopN o := by
  unfold Schedule.expect Schedule.amountOf; rw [duties_hop, Finset.sum_singleton, amount_hop]
theorem payload_bar (d : Bool) : (ringRd (F := F) m).payload (barCell c) 0 d = barPay c d := by dsimp only [ringRd]; rw [kind_bar]; rfl
theorem payload_hop (d : Bool) : (ringRd (F := F) m).payload (hopCell o r h c) 0 d = hopPay m o r h c := by dsimp only [ringRd]; rw [kind_hop]; rfl
theorem rest_bar : bigSep ((ringRd (F := F) m).duties (barCell c) 0 \ ∅) (fun d => (ringRd (F := F) m).payload (barCell c) 0 d)
    = iprop(emp ∗ (slotsFree (F := F) false c ∗ slotsFree (F := F) true c)) := by
  rw [Finset.sdiff_empty, duties_bar, bigSep_congr (fun d _ => payload_bar m c d), bigSep_insert (by decide), bigSep_singleton]; rfl
theorem rest_hop : bigSep ((ringRd (F := F) m).duties (hopCell o r h c) 0 \ ∅) (fun d => (ringRd (F := F) m).payload (hopCell o r h c) 0 d) = hopPay m o r h c := by
  rw [Finset.sdiff_empty, duties_hop, bigSep_singleton, payload_hop]

end Sched

/-! ## What each device owes; the levels -/

/-- What device `c` owes from hop `n` on: both receive semaphores of its right neighbour, for each hop left. -/
def owedHop (c : Dev nD) (h : Fin 7) : CellTallies nD τ sig Unit :=
  tallyAt (hopCell true true h (right c)) () (hopN true) + tallyAt (hopCell false true h (right c)) () (hopN false)
def owedFrom (c : Dev nD) (n : ℕ) : CellTallies nD τ sig Unit := ∑ h ∈ Finset.univ.filter (fun h : Fin 7 => n ≤ h.val), owedHop c h
/-- What it owes at launch: besides, one unit on each neighbour's barrier. -/
def O₀ (c : Dev nD) : CellTallies nD τ sig Unit := (owedFrom c 0 + tallyAt (barCell (right c)) () 1) + tallyAt (barCell (left c)) () 1
/-- What it owes before point `t`. -/
def owedAt (c : Dev nD) (t : ℕ) : CellTallies nD τ sig Unit := if t = 0 then O₀ c else owedFrom c (min t 7)

theorem owedFrom_seven (c : Dev nD) : owedFrom c 7 = 0 := by
  unfold owedFrom; rw [Finset.filter_false_of_mem (fun h _ => by have := h.isLt; omega), Finset.sum_empty]
theorem owedFrom_step (c : Dev nD) (h : Fin 7) : owedFrom c h.val = owedFrom c (h.val + 1) + owedHop c h := by
  unfold owedFrom
  have : Finset.univ.filter (fun k : Fin 7 => h.val ≤ k.val) = insert h (Finset.univ.filter fun k : Fin 7 => h.val + 1 ≤ k.val) := by
    ext k; simp only [Finset.mem_filter, Finset.mem_univ, true_and, Finset.mem_insert, Fin.ext_iff]; omega
  rw [this, Finset.sum_insert (by simp), add_comm]
theorem owedFrom_step' (c : Dev nD) (h : Fin 7) : owedFrom c h.val
    = (owedFrom c (h.val + 1) + tallyAt (hopCell true true h (right c)) () (hopN true)) + tallyAt (hopCell false true h (right c)) () (hopN false) := by
  rw [owedFrom_step, owedHop, add_assoc]

def L (g : GSem nD τ sig) : Finset Unit := if g.1.2 = .tc then {()} else ∅
/-- The barrier below every receive semaphore, hop `h` below hop `h + 1`; all else at the bottom. -/
def lvOf : Option CK → ℕ
  | some (.inl _) => 1
  | some (.inr (_, true, h)) => 2 + h.val
  | _ => 0
def lv (g : GSem nD τ sig) (_ : Unit) : ℕ := lvOf (kindOf g.2)
theorem L_of_ne (g : GSem nD τ sig) (h : g.1.2 ≠ .tc) : L g = ∅ := if_neg h
theorem L_tc (c : Dev nD) (sm : SemLoc sig) : L ((c : Thread nD τ), sm) = {()} := if_pos rfl

theorem owedHop_pos {c : Dev nD} {h : Fin 7} {g : GSem nD τ sig} {u : Unit} (hp : 0 < owedHop c h g u) : ∃ o, g = hopCell o true h (right c) := by
  unfold owedHop at hp
  rw [Pi.add_apply, Finsupp.add_apply, tallyAt_apply, tallyAt_apply] at hp
  by_contra hn; rw [not_exists] at hn
  rw [if_neg (fun h' => hn true h'.1), if_neg (fun h' => hn false h'.1)] at hp
  exact Nat.lt_irrefl 0 hp
theorem owedFrom_pos {c : Dev nD} {n : ℕ} {g : GSem nD τ sig} {u : Unit} (hp : 0 < owedFrom c n g u) :
    ∃ (o : Bool) (h : Fin 7), n ≤ h.val ∧ g = hopCell o true h (right c) := by
  unfold owedFrom at hp
  rw [Finset.sum_apply, Finsupp.finset_sum_apply] at hp
  obtain ⟨h, hm, hh⟩ := Finset.exists_ne_zero_of_sum_ne_zero (Nat.pos_iff_ne_zero.mp hp)
  obtain ⟨o, rfl⟩ := owedHop_pos (Nat.pos_of_ne_zero hh)
  exact ⟨o, h, (Finset.mem_filter.mp hm).2, rfl⟩
theorem O₀_pos {c : Dev nD} {g : GSem nD τ sig} {u : Unit} (hp : 0 < O₀ c g u) :
    (∃ (o : Bool) (h : Fin 7), g = hopCell o true h (right c)) ∨ ∃ d, g = barCell d := by
  unfold O₀ at hp
  rw [Pi.add_apply, Finsupp.add_apply, Pi.add_apply, Finsupp.add_apply, tallyAt_apply, tallyAt_apply] at hp
  by_contra hn; rw [not_or, not_exists] at hn
  rw [if_neg (fun h' => hn.2 ⟨_, h'.1⟩), if_neg (fun h' => hn.2 ⟨_, h'.1⟩)] at hp
  simp only [Nat.add_zero] at hp
  obtain ⟨o, h, -, e⟩ := owedFrom_pos hp
  exact hn.1 o ⟨h, e⟩

theorem lv_hop (o : Bool) (h : Fin 7) (c : Dev nD) (u : Unit) : lv (hopCell o true h c) u = 2 + h.val := by
  unfold lv; rw [kind_hop]; rfl
theorem lv_bar (c : Dev nD) (u : Unit) : lv (barCell c) u = 1 := by unfold lv; rw [kind_bar]; rfl

omit [FloatOps F] in
/-- A semaphore at a level below `2 + n` may be waited for while the hops from `n` on are owed. -/
theorem mayWait_from (c : Dev nD) (sm : SemLoc sig) (n : ℕ) (hl : lvOf (kindOf sm) < 2 + n) :
    (levAts L lv : sProp 𝕄) ⊢ MayWait (c : Thread nD τ) sm () (owedFrom c n) :=
  MayOwe.of_cut (L := L) (lev := lv) (1 + n) (fun p hp => by rw [Finset.mem_singleton.mp hp, L_tc]; exact Finset.mem_singleton_self _)
    (fun g u hg => by obtain ⟨o, h, -, rfl⟩ := owedFrom_pos hg; rw [L_tc]; exact Finset.mem_singleton_self _)
    (fun p hp => by rw [Finset.mem_singleton.mp hp]; show lvOf (kindOf sm) ≤ _; omega)
    (fun g u hg => by obtain ⟨o, h, hn, rfl⟩ := owedFrom_pos hg; rw [lv_hop]; omega)

omit [FloatOps F] in
/-- A semaphore at the bottom level may be waited for whatever is owed before a point. -/
theorem mayWait_low (c : Dev nD) (sm : SemLoc sig) (hl : lvOf (kindOf sm) = 0) (t : ℕ) :
    (levAts L lv : sProp 𝕄) ⊢ MayWait (c : Thread nD τ) sm () (owedAt c t) := by
  unfold owedAt
  split
  · exact MayOwe.of_cut (L := L) (lev := lv) 0 (fun p hp => by rw [Finset.mem_singleton.mp hp, L_tc]; exact Finset.mem_singleton_self _)
      (fun g u hg => by rcases O₀_pos hg with ⟨o, h, rfl⟩ | ⟨d, rfl⟩ <;> (rw [L_tc]; exact Finset.mem_singleton_self _))
      (fun p hp => by rw [Finset.mem_singleton.mp hp]; show lvOf (kindOf sm) ≤ _; omega)
      (fun g u hg => by
        rcases O₀_pos hg with ⟨o, h, rfl⟩ | ⟨d, rfl⟩
        · rw [lv_hop]; omega
        · rw [lv_bar]; omega)
  · exact mayWait_from c sm _ (by omega)

end Cert.RingProof

end
-- ==== Proof.State.lean ====
/-
# The state of the rings and of the key and value copies
-/
module

public import proofs.«01_k».proof.Proof.Protocol
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a copy lands -/

omit [FloatOps F] in
/-- Writing a view with what the view reads of `f` leaves `f` on the view's elements. -/
theorem write_read_self {κ : Kind} {sp : Space} {s : Shape} {e : EltTy} (v : View sig κ sp s e) (fd f : v.ref.ty.Contents (Elt F)) :
    ∀ i ∈ v.set, v.write (Elt F) fd (v.read (Elt F) f) Finset.univ i = f i := by
  intro i hi
  obtain ⟨j, -, rfl⟩ := Finset.mem_map.mp hi
  refine (View.write_emb_of_mem fd (v.read (Elt F) f) (Finset.mem_univ _)).trans ?_
  rw [View.read_apply, cast_cast, cast_eq]

omit [FloatOps F] in
theorem slotPts_split (o : Bool) (c : Dev nD) (k : Fin 8) (f) : (slotPts o c k fullShare f : sProp 𝕄)
    ⊣⊢ iprop(slotPts o c k fullShare.left f ∗ slotPts o c k fullShare.right f) := by
  cases o <;> exact pointsTo_share (PosShare.mem_left_op_right fullShare)

/-- Slot `k` of both gathered arrays of device `c`, holding device `k`'s blocks. -/
def slots (c : Dev nD) (k : Fin 8) (q : PosShare TreeShare) : sProp 𝕄 := iprop(slotPts false c k q (QG m) ∗ slotPts true c k q (OG m))

/-! ## The records every device keeps -/

def records (K : Dev nD × CK → ℕ) : sProp 𝕄 :=
  iprop((bigSep Finset.univ fun ck : Dev nD × CK => cellInv ER (ringRd m) (K ck) (kcell ck))
    ∗ bigSep Finset.univ fun ck : Dev nD × CK => reached ER (kcell ck) 0)
instance records_persistent (K : Dev nD × CK → ℕ) : BI.Persistent (records m K) := by unfold records; infer_instance

theorem inv_at (K : Dev nD × CK → ℕ) (ck : Dev nD × CK) : records m K ⊢ cellInv ER (ringRd m) (K ck) (kcell ck) := by
  unfold records
  iintro ⟨H, -⟩
  have h : (bigSep Finset.univ fun ck : Dev nD × CK => (cellInv ER (ringRd m) (K ck) (kcell ck) : sProp 𝕄)) ⊢ cellInv ER (ringRd m) (K ck) (kcell ck) :=
    bigSep_elim (Finset.mem_univ ck)
  iapply h; iexact H
theorem reached_at (K : Dev nD × CK → ℕ) (ck : Dev nD × CK) : records m K ⊢ reached ER (kcell ck) 0 := by
  unfold records
  iintro ⟨-, H⟩
  have h : (bigSep Finset.univ fun ck : Dev nD × CK => (reached ER (kcell ck) 0 : sProp 𝕄)) ⊢ reached ER (kcell ck) 0 := bigSep_elim (Finset.mem_univ ck)
  iapply h; iexact H

/-- The device's dues, whatever it has waited for. -/
def Owe (c : Dev nD) (O : CellTallies nD τ sig Unit) : sProp 𝕄 := iprop(∃ W : Waits sig Unit, owes (c : Thread nD τ) O W)

/-! ## One hop's state -/

/-- Hop `h` of ring `o` before it starts, but for the neighbour's slot. -/
def hopPre (o : Bool) (c : Dev nD) (h : Fin 7) : sProp 𝕄 :=
  iprop(dutyTok ER (hopCell o false h c) 0 false ∗ dutyTok ER (hopCell o true h (right c)) 0 false
    ∗ cred (tallyAt (hopCell o true h c) () (hopN o))
    ∗ atPos ER (hopCell o false h c) 0 ∅ 0 ∗ atPos ER (hopCell o true h c) 0 ∅ 0)
/-- Its state before the send, between the send and the waits, and after them. -/
def hop0 (o : Bool) (c : Dev nD) (h : Fin 7) : sProp 𝕄 := iprop(hopPre o c h ∗ ∃ f, slotPts o (right c) (back c h.val) fullShare f)
def hop1 (o : Bool) (c : Dev nD) (h : Fin 7) : sProp 𝕄 :=
  iprop(cred (tallyAt (hopCell o false h c) () (hopN o)) ∗ cred (tallyAt (hopCell o true h c) () (hopN o))
    ∗ atPos ER (hopCell o false h c) 0 ∅ 0 ∗ atPos ER (hopCell o true h c) 0 ∅ 0
    ∗ slotPts o c (back c h.val) fullShare.right (GG m o))
def hop2 (o : Bool) (c : Dev nD) (h : Fin 7) : sProp 𝕄 :=
  iprop(semVal (hopCell o false h c) 0 ∗ semVal (hopCell o true h c) 0 ∗ slotPts o c (back c h.val) fullShare (GG m o))
def hopSt (o : Bool) (c : Dev nD) (h : Fin 7) : ℕ → sProp 𝕄
  | 0 => hop0 o c h
  | 1 => hop1 m o c h
  | _ => hop2 m o c h

theorem hopSt_1 (o : Bool) (c : Dev nD) (h : Fin 7) : hopSt m o c h 1 = hop1 m o c h := rfl
theorem hopSt_2 (o : Bool) (c : Dev nD) (h : Fin 7) : hopSt m o c h 2 = hop2 m o c h := rfl

def phase (w n : ℕ) (h : Fin 7) : ℕ := if h.val < w then 2 else if h.val < n then 1 else 0

/-- The rings once `w` hops are waited for and `n` are sent. -/
def hops (c : Dev nD) (w n : ℕ) : sProp 𝕄 :=
  bigSep Finset.univ fun h : Fin 7 => iprop(hopSt m false c h (phase w n h) ∗ hopSt m true c h (phase w n h))
/-- With no hop in flight the last slot to arrive is held whole. -/
def ringS (c : Dev nD) (w n : ℕ) : sProp 𝕄 := iprop(hops m c w n ∗ (if n = w then slots m c (back c w) fullShare else emp))

/-- Sending hop `h`: its state changes and no other's. -/
theorem hops_send (c : Dev nD) (h : Fin 7) : hops m c h.val h.val ⊢ iprop((hop0 false c h ∗ hop0 true c h)
    ∗ ((hop1 m false c h ∗ hop1 m true c h) -∗ hops m c h.val (h.val + 1))) := by
  have key := bigSep_univ_update (M := 𝕄) (Φ := fun k : Fin 7 => iprop(hopSt m false c k (phase h.val h.val k) ∗ hopSt m true c k (phase h.val h.val k)))
    (Ψ := fun k : Fin 7 => iprop(hopSt m false c k (phase h.val (h.val + 1) k) ∗ hopSt m true c k (phase h.val (h.val + 1) k))) h
    (fun k hk => by
      have hk' : k.val ≠ h.val := fun e => hk (Fin.ext e)
      have : phase h.val (h.val + 1) k = phase h.val h.val k := by unfold phase; split_ifs <;> omega
      simp only [this])
  have e0 : phase h.val h.val h = 0 := by unfold phase; rw [if_neg (Nat.lt_irrefl _), if_neg (Nat.lt_irrefl _)]
  have e1 : phase h.val (h.val + 1) h = 1 := by unfold phase; rw [if_neg (Nat.lt_irrefl _), if_pos (Nat.lt_succ_self _)]
  simp only [e0, e1] at key
  exact key

/-- Waiting for hop `h`: its state changes and no other's. -/
theorem hops_wait (c : Dev nD) (h : Fin 7) : hops m c h.val (h.val + 1) ⊢ iprop((hop1 m false c h ∗ hop1 m true c h)
    ∗ ((hop2 m false c h ∗ hop2 m true c h) -∗ hops m c (h.val + 1) (h.val + 1))) := by
  have key := bigSep_univ_update (M := 𝕄) (Φ := fun k : Fin 7 => iprop(hopSt m false c k (phase h.val (h.val + 1) k) ∗ hopSt m true c k (phase h.val (h.val + 1) k)))
    (Ψ := fun k : Fin 7 => iprop(hopSt m false c k (phase (h.val + 1) (h.val + 1) k) ∗ hopSt m true c k (phase (h.val + 1) (h.val + 1) k))) h
    (fun k hk => by
      have hk' : k.val ≠ h.val := fun e => hk (Fin.ext e)
      have : phase (h.val + 1) (h.val + 1) k = phase h.val (h.val + 1) k := by unfold phase; split_ifs <;> omega
      simp only [this])
  have e0 : phase h.val (h.val + 1) h = 1 := by unfold phase; rw [if_neg (Nat.lt_irrefl _), if_pos (Nat.lt_succ_self _)]
  have e1 : phase (h.val + 1) (h.val + 1) h = 2 := by unfold phase; rw [if_pos (Nat.lt_succ_self _)]
  simp only [e0, e1] at key
  exact key

/-- Every slot that has arrived may be read. -/
theorem ring_access (c : Dev nD) (w n k : ℕ) (hk : k ≤ w) (hw : w ≤ 7) (hn : n = w ∨ n = w + 1 ∧ n ≤ 7) :
    ringS m c w n ⊢ iprop(∃ q, slots m c (back c k) q ∗ (slots m c (back c k) q -∗ ringS m c w n)) := by
  unfold ringS
  by_cases hlt : k < n
  · obtain ⟨h, rfl⟩ : ∃ h : Fin 7, h.val = k := ⟨⟨k, by omega⟩, rfl⟩
    unfold hops
    rw [bigSep_univ_at _ h]
    by_cases hkw : h.val < w
    · have e : phase w n h = 2 := by unfold phase; rw [if_pos hkw]
      rw [e]
      rw [hopSt_2, hopSt_2]; unfold hop2 slots
      iintro ⟨⟨⟨⟨H1, H2, HS⟩, ⟨H3, H4, HT⟩⟩, HR⟩, HE⟩
      iexists fullShare
      isplitl [HS HT]
      · isplitl [HS]; · iexact HS
        iexact HT
      iintro ⟨HS, HT⟩
      isplitr [HE]
      · isplitr [HR]
        · isplitl [H1 H2 HS]
          · isplitl [H1]; · iexact H1
            isplitl [H2]; · iexact H2
            iexact HS
          · isplitl [H3]; · iexact H3
            isplitl [H4]; · iexact H4
            iexact HT
        iexact HR
      iexact HE
    · have e : phase w n h = 1 := by unfold phase; rw [if_neg hkw, if_pos hlt]
      rw [e]
      rw [hopSt_1, hopSt_1]; unfold hop1 slots
      iintro ⟨⟨⟨⟨H1, H2, H5, H6, HS⟩, ⟨H3, H4, H7, H8, HT⟩⟩, HR⟩, HE⟩
      iexists fullShare.right
      isplitl [HS HT]
      · isplitl [HS]; · iexact HS
        iexact HT
      iintro ⟨HS, HT⟩
      isplitr [HE]
      · isplitr [HR]
        · isplitl [H1 H2 H5 H6 HS]
          · isplitl [H1]; · iexact H1
            isplitl [H2]; · iexact H2
            isplitl [H5]; · iexact H5
            isplitl [H6]; · iexact H6
            iexact HS
          · isplitl [H3]; · iexact H3
            isplitl [H4]; · iexact H4
            isplitl [H7]; · iexact H7
            isplitl [H8]; · iexact H8
            iexact HT
        iexact HR
      iexact HE
  · obtain rfl : k = w := by omega
    rw [if_pos (by omega : n = k)]
    iintro ⟨HR, HS⟩
    iexists fullShare
    isplitl [HS]; · iexact HS
    iintro HS
    isplitl [HR] <;> iassumption

/-! ## The key and value lanes -/

/-- Elements of half `p` of the key or value buffer, and of the key or value array. -/
def kvHalf : (a : Bool) → (c : Dev nD) → (p : Fin 2) → (bref a).ty.Contents (Elt F) → sProp 𝕄
  | false, c, p, f => (kvBuf false p).view.loc (c : Thread nD τ) ↦[(kvBuf false p).view.set]{fullShare} f
  | true, c, p, f => (kvBuf true p).view.loc (c : Thread nD τ) ↦[(kvBuf true p).view.set]{fullShare} f
/-- The array's share that the copies into half `p` use. -/
def shr : Fin 2 → PosShare TreeShare
  | 0 => fullShare.left
  | 1 => fullShare.right
def arrPts : (a : Bool) → (c : Dev nD) → Finset S16x512x64x64.Idx → PosShare TreeShare → sProp 𝕄
  | false, c, S, q => (kvSrc false c 0).view.loc (c : Thread nD τ) ↦[S]{q} arr m c main_arg2
  | true, c, S, q => (kvSrc true c 0).view.loc (c : Thread nD τ) ↦[S]{q} arr m c main_arg3
def srcSet : (a : Bool) → (c : Dev nD) → (n : Fin 16) → Finset S16x512x64x64.Idx
  | false, c, n => (kvSrc false c n).view.set
  | true, c, n => (kvSrc true c n).view.set

/-- The index of the key and value arrays that step `n` puts at position `i` of a half. -/
def srcIx (c : Dev nD) (n : Fin 16) (i : S2x512x8x64.Idx) : S16x512x64x64.Idx :=
  ValueIdx.ix4 ⟨2 * c.val + n.val / 8, by have := c.isLt; have := n.isLt; have : nD = 8 := rfl; omega⟩ (i 1)
    ⟨8 * (back c n.val).val + (i 2).val, by have := (back c n.val).isLt; have : (i 2).val < 8 := (i 2).isLt; omega⟩ (i 3)
/-- A buffer holding step `n`'s block in either half. -/
def KB : (a : Bool) → (c : Dev nD) → (n : Fin 16) → (bref a).ty.Contents (Elt F)
  | false, c, n => fun i => arr m c main_arg2 (srcIx c n i)
  | true, c, n => fun i => arr m c main_arg3 (srcIx c n i)

omit [FloatOps F] in
theorem emb_ix (c : Dev nD) (p : Fin 2) (n : Fin 16) (y : S1x512x8x64.Idx) :
    (Rect.unit (s := S16x512x64x64) ![2 * c.val + n.val / 8, 0, 8 * (back c n.val).val, 0] S1x512x8x64.size (src_inb c n)).emb y
      = srcIx c n ((Rect.unit (s := S2x512x8x64) ![p.val, 0, 0, 0] S1x512x8x64.size (half_inb p)).emb y) := by
  have h0 : (y 0).val = 0 := by have : (y 0).val < 1 := (y 0).isLt; omega
  funext a
  refine Fin.ext ?_
  match a with
  | 0 => show (2 * c.val + n.val / 8) + 1 * (y 0).val = 2 * c.val + n.val / 8; omega
  | 1 => show 0 + 1 * (y 1).val = 0 + 1 * (y 1).val; rfl
  | 2 => show 8 * (back c n.val).val + 1 * (y 2).val = 8 * (back c n.val).val + (0 + 1 * (y 2).val); omega
  | 3 => show 0 + 1 * (y 3).val = 0 + 1 * (y 3).val; rfl

omit [FloatOps F] in
theorem read_src0 (c : Dev nD) (p : Fin 2) (n : Fin 16) :
    (kvSrc false c n).view.read (Elt F) (arr m c main_arg2) = (kvBuf false p).view.read (Elt F) (KB m false c n) := by
  funext j
  exact congrArg (arr m c main_arg2) (emb_ix c p n _)
omit [FloatOps F] in
theorem read_src1 (c : Dev nD) (p : Fin 2) (n : Fin 16) :
    (kvSrc true c n).view.read (Elt F) (arr m c main_arg3) = (kvBuf true p).view.read (Elt F) (KB m true c n) := by
  funext j
  exact congrArg (arr m c main_arg3) (emb_ix c p n _)

/-- The lane into half `p`: nothing in flight; step `n`'s copy in flight; step `n`'s copy landed. -/
def kvIdle (a : Bool) (c : Dev nD) (p : Fin 2) : sProp 𝕄 :=
  iprop(semVal ((c : Thread nD τ), .dma (kvSem a p)) 0 ∗ (∃ f, kvHalf a c p f) ∗ arrPts m a c Finset.univ (shr p))
def kvFly (a : Bool) (c : Dev nD) (p : Fin 2) (n : Fin 16) : sProp 𝕄 :=
  iprop(Flight EC (c : Thread nD τ) (.dma (kvSem a p)) () (kvN a) iprop(kvHalf a c p (KB m a c n) ∗ arrPts m a c (srcSet a c n) (shr p))
    ∗ arrPts m a c (Finset.univ \ srcSet a c n) (shr p))
def kvGot (a : Bool) (c : Dev nD) (p : Fin 2) (n : Fin 16) : sProp 𝕄 :=
  iprop(semVal ((c : Thread nD τ), .dma (kvSem a p)) 0 ∗ kvHalf a c p (KB m a c n) ∗ arrPts m a c Finset.univ (shr p))

omit [FloatOps F] in
theorem arrPts_split (a : Bool) (c : Dev nD) (n : Fin 16) (q) : (arrPts m a c Finset.univ q : sProp 𝕄)
    ⊣⊢ iprop(arrPts m a c (srcSet a c n) q ∗ arrPts m a c (Finset.univ \ srcSet a c n) q) := by
  cases a <;> exact pointsTo_split_subset (Finset.subset_univ _)
omit [FloatOps F] in
theorem kvGot_idle (a : Bool) (c : Dev nD) (p : Fin 2) (n : Fin 16) : (kvGot m a c p n : sProp 𝕄) ⊢ kvIdle m a c p := by
  unfold kvGot kvIdle
  iintro ⟨Hs, Hk, Ha⟩
  isplitl [Hs]; · iexact Hs
  isplitl [Hk]; · iexists _; iexact Hk
  iexact Ha

end Cert.RingProof

end
-- ==== Proof.Rules.lean ====
/-
# Each operation of the kernel, on the state it changes
-/
module

public import proofs.«01_k».proof.Proof.State
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A program of device `c`'s core meets `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α : Type} {Q : α → sProp (MT nD τ sig Unit (Elt F) ℕ UU ℕ)} {k : PUnit → Prog (TpuEff nD τ sig (Elt F) Λ₀ .tc) α}

omit [FloatOps F] in
theorem slotPts_false (c : Dev nD) (s : Fin 8) (q) (f) : (slotPts false c s q f : sProp 𝕄)
    = ((gslot false s).view.loc (c : Thread nD τ) ↦[(gslot false s).view.set]{q} f) := rfl
omit [FloatOps F] in
theorem slotPts_true (c : Dev nD) (s : Fin 8) (q) (f) : (slotPts true c s q f : sProp 𝕄)
    = ((gslot true s).view.loc (c : Thread nD τ) ↦[(gslot true s).view.set]{q} f) := rfl

section Ring
variable (K : Dev nD × CK → ℕ)

theorem GG_read (o : Bool) (c : Dev nD) (s : Fin 8) (fd : (gref o).ty.Contents (Elt F)) :
    (match o, fd with
      | false, fd => ((gslot false s).view.loc (c : Thread nD τ) ↦[(gslot false s).view.set]{fullShare} (gslot false s).view.write (Elt F) fd ((gslot false s).view.read (Elt F) (QG m)) Finset.univ)
      | true, fd => ((gslot true s).view.loc (c : Thread nD τ) ↦[(gslot true s).view.set]{fullShare} (gslot true s).view.write (Elt F) fd ((gslot true s).view.read (Elt F) (OG m)) Finset.univ) : sProp 𝕄)
      ⊢ slotPts o c s fullShare (GG m o) := by
  cases o
  · exact Entails.of_eq (pointsTo_congr (write_read_self (gslot false s).view fd (QG m)))
  · exact Entails.of_eq (pointsTo_congr (write_read_self (gslot true s).view fd (OG m)))

/-- Hop `h`'s send: the left half of the slot goes, and the dues of one receive semaphore. -/
theorem wp_send_hop (o : Bool) (c n : Dev nD) (h : Fin 7) (hn : n = right c) {mr md : Memref sig .tc .vmem (gsh o) .bf16}
    (hm : mr = gslot o (back c h.val)) (hmd : md = gslot o (back c h.val)) {sS sR : DmaSem sig} (hS : sS = ringSem o false h) (hR : sR = ringSem o true h)
    {hsc : (md : Memref sig (Dev.tc n : Thread nD τ).2.kind .vmem (gsh o) .bf16).view.ref.isScScratch = false}
    {hsrc : mr.view.WordExact} {hdst : md.view.WordExact}
    {hsem : DmaTarget.Typed .vmem (.dma sR) (.remote (Dev.tc n : Thread nD τ) md (.dma sS) hsc)} (O : CellTallies nD τ sig Unit) :
    iprop(records m K ∗ slotPts o c (back c h.val) fullShare.left (GG m o) ∗ (∃ f, slotPts o (right c) (back c h.val) fullShare f)
        ∗ Owe c (O + tallyAt (hopCell o true h (right c)) () (hopN o))
        ∗ dutyTok ER (hopCell o false h c) 0 false ∗ dutyTok ER (hopCell o true h (right c)) 0 false)
      ⊢ iprop(((cred (tallyAt (hopCell o false h c) () (hopN o)) ∗ Owe c O) -∗ WP c (k ⟨⟩) Q)
          -∗ WP c (.op (.enqueueDma mr (.remote (Dev.tc n : Thread nD τ) md (.dma sS) hsc) (.dma sR) hsrc hdst hsem) k) Q) := by
  subst hn hm hmd hS hR
  unfold Owe
  iintro ⟨#HR, Hs, ⟨%fd, Hd⟩, ⟨%W, HO⟩, Ht, Hu⟩ Hk
  have hp : (ringRd m).payload (hopCell o true h (right c)) 0 false = slotPts o (right c) (back c h.val) fullShare (GG m o) := by
    rw [payload_hop]; show slotPts o (right c) (back (right c) (h.val + 1)) fullShare (GG m o) = _; rw [back_right]
  have hd1 : false ∈ (ringRd (F := F) m).duties (hopCell o false h c) 0 := by rw [duties_hop]; exact Finset.mem_singleton_self _
  have hd2 : false ∈ (ringRd (F := F) m).duties (hopCell o true h (right c)) 0 := by rw [duties_hop]; exact Finset.mem_singleton_self _
  cases o
  · ihave Hs := (Entails.of_eq (slotPts_false c _ _ _)) $$ Hs
    ihave Hd := (Entails.of_eq (slotPts_false (right c) _ _ _)) $$ Hd
    iapply (Rounds.wp_send_pointsTo 𝒱₀ ER (ringRd m) (c : Thread nD τ) none (κ₁ := K (c, .inr (false, false, h))) (κ₂ := K (right c, .inr (false, true, h)))
      (r₁ := 0) (r₂ := 0) (d₁ := false) (d₂ := false) (fs := GG m false) (fd := fd) hd1 hd2
      () () (hopN false) (gslot_credit false _) (amount_hop m c false false h _) (amount_hop m (right c) false true h _) O rfl (W := W)
      (by rw [payload_hop]; exact BI.Entails.refl _) (by rw [hp]; exact GG_read m false (right c) (back c h.val) fd)) $$ [Hs Hd HO Ht Hu]
    · isplitr; · iapply (inv_at m K (c, .inr (false, false, h))); iexact HR
      isplitr; · iapply (inv_at m K (right c, .inr (false, true, h))); iexact HR
      isplitl [Hs]; · iexact Hs
      isplitl [Hd]; · iexact Hd
      isplitl [HO]; · iexact HO
      isplitl [Ht]; · iexact Ht
      isplitr; · iapply (reached_at m K (c, .inr (false, false, h))); iexact HR
      isplitl [Hu]; · iexact Hu
      iapply (reached_at m K (right c, .inr (false, true, h))); iexact HR
    iintro ⟨Hc, HO⟩
    iapply Hk
    isplitl [Hc]; · iexact Hc
    iexists W; iexact HO
  · ihave Hs := (Entails.of_eq (slotPts_true c _ _ _)) $$ Hs
    ihave Hd := (Entails.of_eq (slotPts_true (right c) _ _ _)) $$ Hd
    iapply (Rounds.wp_send_pointsTo 𝒱₀ ER (ringRd m) (c : Thread nD τ) none (κ₁ := K (c, .inr (true, false, h))) (κ₂ := K (right c, .inr (true, true, h)))
      (r₁ := 0) (r₂ := 0) (d₁ := false) (d₂ := false) (fs := GG m true) (fd := fd) hd1 hd2
      () () (hopN true) (gslot_credit true _) (amount_hop m c true false h _) (amount_hop m (right c) true true h _) O rfl (W := W)
      (by rw [payload_hop]; exact BI.Entails.refl _) (by rw [hp]; exact GG_read m true (right c) (back c h.val) fd)) $$ [Hs Hd HO Ht Hu]
    · isplitr; · iapply (inv_at m K (c, .inr (true, false, h))); iexact HR
      isplitr; · iapply (inv_at m K (right c, .inr (true, true, h))); iexact HR
      isplitl [Hs]; · iexact Hs
      isplitl [Hd]; · iexact Hd
      isplitl [HO]; · iexact HO
      isplitl [Ht]; · iexact Ht
      isplitr; · iapply (reached_at m K (c, .inr (true, false, h))); iexact HR
      isplitl [Hu]; · iexact Hu
      iapply (reached_at m K (right c, .inr (true, true, h))); iexact HR
    iintro ⟨Hc, HO⟩
    iapply Hk
    isplitl [Hc]; · iexact Hc
    iexists W; iexact HO

/-- A wait for one semaphore of hop `h`: what it hands over, and the semaphore back at zero. -/
theorem wp_wait_hop (o r : Bool) (c : Dev nD) (h : Fin 7) (n : ℕ) (hl : lvOf (some (.inr (o, r, h))) < 2 + n) {sem : DmaSem sig} (hsem : sem = ringSem o r h)
    {sp sp' : Space} {s s' : Shape} {e e' : EltTy} {src : Memref sig .tc sp' s' e'} {dst : Memref sig .tc sp s e} (hN : dst.view.dmaCredit = hopN o)
    {hsrc : src.view.WordExact} {hdst : dst.view.WordExact} :
    iprop(records m K ∗ levAts L lv ∗ cred (tallyAt (hopCell o r h c) () (hopN o)) ∗ Owe c (owedFrom c n) ∗ atPos ER (hopCell o r h c) 0 ∅ 0)
      ⊢ iprop(((Owe c (owedFrom c n) ∗ semVal (hopCell o r h c) 0 ∗ hopPay m o r h c) -∗ WP c (k ⟨⟩) Q)
          -∗ WP c (.op (.waitDma2 sem src dst hsrc hdst) k) Q) := by
  subst hsem
  unfold Owe
  iintro ⟨#HR, #HL, Hc, ⟨%W, HO⟩, Hat⟩ Hk
  iapply (Rounds.wp_wait_rest_token 𝒱₀ ER (ringRd m) (c : Thread nD τ) none (κ := K (c, .inr (o, r, h)))
      (wpE_waitDma2_eq 𝒱₀ (c : Thread nD τ) none Set.univ) (Set.mem_univ _) () (O := owedFrom c n) (W := W) (R := 0) (m := 0) (T := ∅)
      (by rw [Nat.zero_add, expect_hop]; exact hN)) $$ [Hc HO Hat]
  · isplitr; · iapply (inv_at m K (c, .inr (o, r, h))); iexact HR
    isplitl [Hc]; · rw [hN]; iexact Hc
    isplitl [HO]; · iexact HO
    isplitr; · iapply (mayWait_from c (.dma (ringSem o r h)) n (by rw [kind_hop]; exact hl)); iexact HL
    iexact Hat
  iintro ⟨HO, Hat, -, Hpay⟩
  ihave Hp := (Entails.of_eq (rest_hop m c o r h)) $$ Hpay
  imod (Rounds.cell_close ER (ringRd m) (Set.mem_univ (K (c, .inr (o, r, h)))) (fun h => h) (R := 0 + 1) (duties_later m (hopCell o r h c))) $$ [Hat] with Hv
  · isplitr; · iapply (inv_at m K (c, .inr (o, r, h))); iexact HR
    iexact Hat
  iapply Hk
  isplitl [HO]; · iexists _; iexact HO
  isplitl [Hv]; · iexact Hv
  iexact Hp

/-- The signal of one neighbour's barrier. -/
theorem wp_signal_bar (c n d : Dev nD) (b : Bool) (hn : n = d) (O : CellTallies nD τ sig Unit) {j : ℕ} (hj : j = 1) :
    iprop(records m K ∗ Owe c (O + tallyAt (barCell d) () 1) ∗ dutyTok ER (barCell d) 0 b ∗ barPay d b)
      ⊢ iprop((Owe c O -∗ WP c (k ⟨⟩) Q) -∗ WP c (.op (.semSignal (Dev.tc n : Thread nD τ) barS j) k) Q) := by
  subst hn hj
  unfold Owe
  iintro ⟨#HR, ⟨%W, HO⟩, Ht, Hp⟩ Hk
  iapply (Rounds.wp_signal 𝒱₀ ER (ringRd m) (c : Thread nD τ) none (dst := (n : Thread nD τ)) (κ := K (n, .inl ())) (r := 0) (d := b)
      (by rw [duties_bar]; cases b <;> decide) (amount_bar m n b) () O rfl (W := W)) $$ [HO Ht Hp]
  · isplitr; · iapply (inv_at m K (n, .inl ())); iexact HR
    isplitl [HO]; · iexact HO
    isplitl [Ht]; · iexact Ht
    isplitl [Hp]; · rw [payload_bar]; iexact Hp
    iapply (reached_at m K (n, .inl ())); iexact HR
  iintro HO
  iapply Hk
  iexists W; iexact HO

/-- The wait for both neighbours. -/
theorem wp_wait_bar (c : Dev nD) {j : ℕ} (hj : j = 2) :
    iprop(records m K ∗ levAts L lv ∗ cred (tallyAt (barCell c) () 2) ∗ Owe c (owedFrom c 0) ∗ atPos ER (barCell c) 0 ∅ 0)
      ⊢ iprop(((Owe c (owedFrom c 0) ∗ semVal (barCell c) 0 ∗ slotsFree (F := F) false c ∗ slotsFree (F := F) true c) -∗ WP c (k ⟨⟩) Q)
          -∗ WP c (.op (.semWait barS j) k) Q) := by
  subst hj
  unfold Owe
  iintro ⟨#HR, #HL, Hc, ⟨%W, HO⟩, Hat⟩ Hk
  iapply (Rounds.wp_wait_rest_token 𝒱₀ ER (ringRd m) (c : Thread nD τ) none (κ := K (c, .inl ()))
      (wpE_semWait_eq 𝒱₀ (c : Thread nD τ) none Set.univ) (Set.mem_univ _) () (O := owedFrom c 0) (W := W) (R := 0) (m := 0) (T := ∅)
      (by rw [Nat.zero_add, expect_bar])) $$ [Hc HO Hat]
  · isplitr; · iapply (inv_at m K (c, .inl ())); iexact HR
    isplitl [Hc]; · iexact Hc
    isplitl [HO]; · iexact HO
    isplitr; · iapply (mayWait_from c (.reg barS) 0 (by rw [kind_bar]; decide)); iexact HL
    iexact Hat
  iintro ⟨HO, Hat, -, Hpay⟩
  ihave Hp := (Entails.of_eq (rest_bar m c)) $$ Hpay
  icases Hp with ⟨-, Hp⟩
  imod (Rounds.cell_close ER (ringRd m) (Set.mem_univ (K (c, .inl ()))) (fun h => h) (R := 0 + 1) (duties_later m (barCell c))) $$ [Hat] with Hv
  · isplitr; · iapply (inv_at m K (c, .inl ())); iexact HR
    iexact Hat
  iapply Hk
  isplitl [HO]; · iexists _; iexact HO
  isplitl [Hv]; · iexact Hv
  iexact Hp

end Ring

/-! ## The key and value copies -/

section Lanes

omit [FloatOps F] in
theorem arrPts_false (c : Dev nD) (n : Fin 16) (q) : (arrPts m false c (srcSet false c n) q : sProp 𝕄)
    = ((kvSrc false c n).view.loc (c : Thread nD τ) ↦[(kvSrc false c n).view.set]{q} arr m c main_arg2) := rfl
omit [FloatOps F] in
theorem kvHalf_false (c : Dev nD) (p : Fin 2) (f) : (kvHalf false c p f : sProp 𝕄)
    = ((kvBuf false p).view.loc (c : Thread nD τ) ↦[(kvBuf false p).view.set]{fullShare} f) := rfl
omit [FloatOps F] in
theorem landed_false (c : Dev nD) (p : Fin 2) (n : Fin 16) (f : (bref false).ty.Contents (Elt F)) :
    (iprop(((kvBuf false p).view.loc (c : Thread nD τ) ↦[(kvBuf false p).view.set]{fullShare}
        (kvBuf false p).view.write (Elt F) f ((ReadAs.same (Val := Elt F) (s := S512x8x64) (e := .f32)).apply ((kvSrc false c n).view.read (Elt F) (arr m c main_arg2))) Finset.univ)
      ∗ ((kvSrc false c n).view.loc (c : Thread nD τ) ↦[(kvSrc false c n).view.set]{shr p} arr m c main_arg2)) : sProp 𝕄)
      ⊢ iprop(kvHalf false c p (KB m false c n) ∗ arrPts m false c (srcSet false c n) (shr p)) := by
  have h : (ReadAs.same (Val := Elt F) (s := S512x8x64) (e := .f32)).apply ((kvSrc false c n).view.read (Elt F) (arr m c main_arg2)) = (kvBuf false p).view.read (Elt F) (KB m false c n) := read_src0 m c p n
  rw [h, kvHalf_false, arrPts_false]
  exact sep_mono_left (Entails.of_eq (pointsTo_congr (write_read_self (kvBuf false p).view f (KB m false c n))))
omit [FloatOps F] in
theorem arrPts_true (c : Dev nD) (n : Fin 16) (q) : (arrPts m true c (srcSet true c n) q : sProp 𝕄)
    = ((kvSrc true c n).view.loc (c : Thread nD τ) ↦[(kvSrc true c n).view.set]{q} arr m c main_arg3) := rfl
omit [FloatOps F] in
theorem kvHalf_true (c : Dev nD) (p : Fin 2) (f) : (kvHalf true c p f : sProp 𝕄)
    = ((kvBuf true p).view.loc (c : Thread nD τ) ↦[(kvBuf true p).view.set]{fullShare} f) := rfl
omit [FloatOps F] in
theorem landed_true (c : Dev nD) (p : Fin 2) (n : Fin 16) (f : (bref true).ty.Contents (Elt F)) :
    (iprop(((kvBuf true p).view.loc (c : Thread nD τ) ↦[(kvBuf true p).view.set]{fullShare}
        (kvBuf true p).view.write (Elt F) f ((ReadAs.same (Val := Elt F) (s := S512x8x64) (e := .f32)).apply ((kvSrc true c n).view.read (Elt F) (arr m c main_arg3))) Finset.univ)
      ∗ ((kvSrc true c n).view.loc (c : Thread nD τ) ↦[(kvSrc true c n).view.set]{shr p} arr m c main_arg3)) : sProp 𝕄)
      ⊢ iprop(kvHalf true c p (KB m true c n) ∗ arrPts m true c (srcSet true c n) (shr p)) := by
  have h : (ReadAs.same (Val := Elt F) (s := S512x8x64) (e := .f32)).apply ((kvSrc true c n).view.read (Elt F) (arr m c main_arg3)) = (kvBuf true p).view.read (Elt F) (KB m true c n) := read_src1 m c p n
  rw [h, kvHalf_true, arrPts_true]
  exact sep_mono_left (Entails.of_eq (pointsTo_congr (write_read_self (kvBuf true p).view f (KB m true c n))))

/-- A copy of step `n`'s block starts into half `p`. -/
theorem wp_kv_start (a : Bool) (c : Dev nD) (p : Fin 2) (n : Fin 16) {src : Memref sig .tc .hbm S512x8x64 .f32} {dst : Memref sig .tc .vmem S512x8x64 .f32}
    {sem : DmaSem sig} (hs : src = kvSrc a c n) (hd : dst = kvBuf a p) (hsem : sem = kvSem a p)
    {hsrc : src.view.WordExact} {hdst : dst.view.WordExact} {ht : DmaTarget.Typed (nD := nD) (τ := τ) .hbm (.dma sem) (.here (p := (c : Thread nD τ).2) dst)} :
    (kvIdle m a c p : sProp 𝕄)
      ⊢ iprop((kvFly m a c p n -∗ WP c (k ⟨⟩) Q) -∗ WP c (.op (.enqueueDma src (.here dst) (.dma sem) hsrc hdst ht) k) Q) := by
  subst hs hd hsem
  unfold kvIdle kvFly
  iintro ⟨Hv, ⟨%f, Hb⟩, Ha⟩ Hk
  ihave Ha' := (arrPts_split m a c n (shr p)).1 $$ Ha
  icases Ha' with ⟨Hs, Hr⟩
  cases a
  · ihave Hs := (Entails.of_eq (arrPts_false m c n (shr p))) $$ Hs
    ihave Hb := (Entails.of_eq (kvHalf_false c p f)) $$ Hb
    iapply (Transfers.wp_dmaLocal (src := kvSrc false c n) (dst := kvBuf false p) EC 𝒱₀ (c : Thread nD τ) none () (kvN false) (sm := .dma (kvSem false p)) (kvBuf_credit false p) (kvN_pos false) (Finset.Subset.refl _)
      (q := shr p) (fs := arr m c main_arg2) (fd := f)) $$ [Hv Hb Hs]
    · isplitl [Hs]; · iexact Hs
      isplitl [Hb]; · iexact Hb
      iexact Hv
    iintro HF
    iapply Hk
    isplitl [HF]
    · iapply (Flight_mono EC (c : Thread nD τ) (landed_false m c p n f)); iexact HF
    iexact Hr
  · ihave Hs := (Entails.of_eq (arrPts_true m c n (shr p))) $$ Hs
    ihave Hb := (Entails.of_eq (kvHalf_true c p f)) $$ Hb
    iapply (Transfers.wp_dmaLocal (src := kvSrc true c n) (dst := kvBuf true p) EC 𝒱₀ (c : Thread nD τ) none () (kvN true) (sm := .dma (kvSem true p)) (kvBuf_credit true p) (kvN_pos true) (Finset.Subset.refl _)
      (q := shr p) (fs := arr m c main_arg3) (fd := f)) $$ [Hv Hb Hs]
    · isplitl [Hs]; · iexact Hs
      isplitl [Hb]; · iexact Hb
      iexact Hv
    iintro HF
    iapply Hk
    isplitl [HF]
    · iapply (Flight_mono EC (c : Thread nD τ) (landed_true m c p n f)); iexact HF
    iexact Hr

/-- The wait for it. -/
theorem wp_kv_wait (a : Bool) (c : Dev nD) (p : Fin 2) (n : Fin 16) (O : ℕ) {sem : DmaSem sig} (hsem : sem = kvSem a p)
    {sp sp' : Space} {s s' : Shape} {e e' : EltTy} {src : Memref sig .tc sp' s' e'} {dst : Memref sig .tc sp s e} (hN : dst.view.dmaCredit = kvN a)
    {hsrc : src.view.WordExact} {hdst : dst.view.WordExact} :
    iprop(levAts L lv ∗ kvFly m a c p n ∗ Owe c (owedFrom c O))
      ⊢ iprop(((kvGot m a c p n ∗ Owe c (owedFrom c O)) -∗ WP c (k ⟨⟩) Q) -∗ WP c (.op (.waitDma2 sem src dst hsrc hdst) k) Q) := by
  subst hsem
  unfold kvFly kvGot Owe
  have hl : lvOf (kindOf (.dma (kvSem a p))) < 2 + O := by rw [kindOf_kv]; show 0 < _; omega
  iintro ⟨#HL, ⟨HF, Hr⟩, ⟨%W, HO⟩⟩ Hk
  iapply (Transfers.wp_waitLocalO EC 𝒱₀ (c : Thread nD τ) none () hN) $$ [HF HO]
  · isplitl [HF]; · iexact HF
    isplitl [HO]; · iexact HO
    iapply (mayWait_from c (.dma (kvSem a p)) O hl); iexact HL
  iintro ⟨⟨Hb, Hs⟩, Hv, HO⟩
  iapply Hk
  isplitr [HO]
  · isplitl [Hv]; · iexact Hv
    isplitl [Hb]; · iexact Hb
    iapply (arrPts_split m a c n (shr p)).2
    isplitl [Hs] <;> iassumption
  iexists _; iexact HO

end Lanes

end Cert.RingProof

end
-- ==== Proof.Steps.lean ====
/-
# The ring's steps: both sends of a hop, and the waits that close it
-/
module

public import proofs.«01_k».proof.Proof.Rules
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {α : Type} {Q : α → sProp (MT nD τ sig Unit (Elt F) ℕ UU ℕ)} {k : PUnit → Prog (TpuEff nD τ sig (Elt F) Λ₀ .tc) α}
variable (K : Dev nD × CK → ℕ)

/-- Both rings' sends of hop `h`, one after the other. -/
theorem wp_ring_send (c n n' : Dev nD) (h : Fin 7) (hn : n = right c) (hn' : n' = right c)
    {mr md : Memref sig .tc .vmem (gsh false) .bf16} {mr' md' : Memref sig .tc .vmem (gsh true) .bf16}
    (hm : mr = gslot false (back c h.val)) (hmd : md = gslot false (back c h.val)) (hm' : mr' = gslot true (back c h.val)) (hmd' : md' = gslot true (back c h.val))
    {s1 s2 s3 s4 : DmaSem sig} (h1 : s1 = ringSem false false h) (h2 : s2 = ringSem false true h) (h3 : s3 = ringSem true false h) (h4 : s4 = ringSem true true h)
    {hsc : (md : Memref sig (Dev.tc n : Thread nD τ).2.kind .vmem (gsh false) .bf16).view.ref.isScScratch = false}
    {hsrc : mr.view.WordExact} {hdst : md.view.WordExact}
    {hsem : DmaTarget.Typed .vmem (.dma s2) (.remote (Dev.tc n : Thread nD τ) md (.dma s1) hsc)}
    {hsc' : (md' : Memref sig (Dev.tc n' : Thread nD τ).2.kind .vmem (gsh true) .bf16).view.ref.isScScratch = false}
    {hsrc' : mr'.view.WordExact} {hdst' : md'.view.WordExact}
    {hsem' : DmaTarget.Typed .vmem (.dma s4) (.remote (Dev.tc n' : Thread nD τ) md' (.dma s3) hsc')} :
    iprop(records m K ∗ ringS m c h.val h.val ∗ Owe c (owedFrom c h.val))
      ⊢ iprop(((ringS m c h.val (h.val + 1) ∗ Owe c (owedFrom c (h.val + 1))) -∗ WP c (k ⟨⟩) Q)
          -∗ WP c (.op (.enqueueDma mr (.remote (Dev.tc n : Thread nD τ) md (.dma s1) hsc) (.dma s2) hsrc hdst hsem) fun _ =>
              .op (.enqueueDma mr' (.remote (Dev.tc n' : Thread nD τ) md' (.dma s3) hsc') (.dma s4) hsrc' hdst' hsem') k) Q) := by
  unfold ringS
  rw [if_pos rfl, if_neg (Nat.succ_ne_self _), owedFrom_step']
  iintro ⟨#HR, ⟨Hh, Hs⟩, HO⟩ Hk
  ihave Hh' := (hops_send m c h) $$ Hh
  unfold slots
  icases Hs with ⟨Hq, Ho⟩
  ihave Hq := (slotPts_split false c (back c h.val) (QG m)).1 $$ Hq
  ihave Ho := (slotPts_split true c (back c h.val) (OG m)).1 $$ Ho
  icases Hq with ⟨Hql, Hqr⟩
  icases Ho with ⟨Hol, Hor⟩
  unfold hop0 hopPre
  icases Hh' with ⟨⟨⟨⟨Ht1, Ht2, Hc1, Ha1, Ha2⟩, Hf1⟩, ⟨⟨Ht3, Ht4, Hc2, Ha3, Ha4⟩, Hf2⟩⟩, Hback⟩
  iapply (wp_send_hop m K false c n h hn hm hmd h1 h2 (owedFrom c (h.val + 1) + tallyAt (hopCell true true h (right c)) () (hopN true))) $$ [Hql Hf1 HO Ht1 Ht2]
  · isplitr; · iexact HR
    isplitl [Hql]; · iexact Hql
    isplitl [Hf1]; · iexact Hf1
    isplitl [HO]; · iexact HO
    isplitl [Ht1]; · iexact Ht1
    iexact Ht2
  iintro ⟨Hc3, HO⟩
  iapply (wp_send_hop m K true c n' h hn' hm' hmd' h3 h4 (owedFrom c (h.val + 1))) $$ [Hol Hf2 HO Ht3 Ht4]
  · isplitr; · iexact HR
    isplitl [Hol]; · iexact Hol
    isplitl [Hf2]; · iexact Hf2
    isplitl [HO]; · iexact HO
    isplitl [Ht3]; · iexact Ht3
    iexact Ht4
  iintro ⟨Hc4, HO⟩
  iapply Hk
  isplitr [HO]
  · isplitl
    · iapply Hback
      unfold hop1
      isplitl [Hc1 Hc3 Ha1 Ha2 Hqr]
      · isplitl [Hc3]; · iexact Hc3
        isplitl [Hc1]; · iexact Hc1
        isplitl [Ha1]; · iexact Ha1
        isplitl [Ha2]; · iexact Ha2
        iexact Hqr
      · isplitl [Hc4]; · iexact Hc4
        isplitl [Hc2]; · iexact Hc2
        isplitl [Ha3]; · iexact Ha3
        isplitl [Ha4]; · iexact Ha4
        iexact Hor
    · iempintro
  · iexact HO

theorem hopPay_send (o : Bool) (c : Dev nD) (h : Fin 7) : hopPay m o false h c = slotPts o c (back c h.val) fullShare.left (GG m o) := rfl
theorem hopPay_recv_q (c : Dev nD) (h : Fin 7) : hopPay m false true h c = slotPts false c (back c (h.val + 1)) fullShare (QG m) := rfl
theorem hopPay_recv_o (c : Dev nD) (h : Fin 7) : hopPay m true true h c = slotPts true c (back c (h.val + 1)) fullShare (OG m) := rfl

/-- The four waits that close hop `h`. -/
theorem wp_ring_wait (c : Dev nD) (h : Fin 7) {s1 s2 s3 s4 : DmaSem sig}
    (h1 : s1 = ringSem false false h) (h2 : s2 = ringSem false true h) (h3 : s3 = ringSem true false h) (h4 : s4 = ringSem true true h)
    {a1 a2 b1 b2 : Memref sig .tc .vmem (gsh false) .bf16} {a3 a4 b3 b4 : Memref sig .tc .vmem (gsh true) .bf16}
    (kk : Fin 8) (n1 : b1 = gslot false kk) (n2 : b2 = gslot false kk) (n3 : b3 = gslot true kk) (n4 : b4 = gslot true kk)
    {w1 : a1.view.WordExact} {x1 : b1.view.WordExact} {w2 : a2.view.WordExact} {x2 : b2.view.WordExact}
    {w3 : a3.view.WordExact} {x3 : b3.view.WordExact} {w4 : a4.view.WordExact} {x4 : b4.view.WordExact} :
    iprop(records m K ∗ levAts L lv ∗ ringS m c h.val (h.val + 1) ∗ Owe c (owedFrom c (h.val + 1)))
      ⊢ iprop(((ringS m c (h.val + 1) (h.val + 1) ∗ Owe c (owedFrom c (h.val + 1))) -∗ WP c (k ⟨⟩) Q)
          -∗ WP c (.op (.waitDma2 s1 a1 b1 w1 x1) fun _ => .op (.waitDma2 s2 a2 b2 w2 x2) fun _ =>
              .op (.waitDma2 s3 a3 b3 w3 x3) fun _ => .op (.waitDma2 s4 a4 b4 w4 x4) k) Q) := by
  unfold ringS
  rw [if_pos rfl, if_neg (Nat.succ_ne_self _)]
  iintro ⟨#HR, #HL, ⟨Hh, -⟩, HO⟩ Hk
  ihave Hh' := (hops_wait m c h) $$ Hh
  unfold hop1
  icases Hh' with ⟨⟨⟨Hc1, Hc2, Ha1, Ha2, Hq⟩, ⟨Hc3, Hc4, Ha3, Ha4, Ho⟩⟩, Hback⟩
  iapply (wp_wait_hop m K false false c h (h.val + 1) (by show 0 < _; omega) h1 (by rw [n1, gslot_credit])) $$ [HO Hc1 Ha1]
  · isplitr; · iexact HR
    isplitr; · iexact HL
    isplitl [Hc1]; · iexact Hc1
    isplitl [HO]; · iexact HO
    iexact Ha1
  iintro ⟨HO, Hs1, Hp1⟩
  ihave Hp1 := (Entails.of_eq (hopPay_send m false c h)) $$ Hp1
  iapply (wp_wait_hop m K false true c h (h.val + 1) (by show 2 + h.val < _; omega) h2 (by rw [n2, gslot_credit])) $$ [HO Hc2 Ha2]
  · isplitr; · iexact HR
    isplitr; · iexact HL
    isplitl [Hc2]; · iexact Hc2
    isplitl [HO]; · iexact HO
    iexact Ha2
  iintro ⟨HO, Hs2, Hp2⟩
  ihave Hp2 := (Entails.of_eq (hopPay_recv_q m c h)) $$ Hp2
  iapply (wp_wait_hop m K true false c h (h.val + 1) (by show 0 < _; omega) h3 (by rw [n3, gslot_credit])) $$ [HO Hc3 Ha3]
  · isplitr; · iexact HR
    isplitr; · iexact HL
    isplitl [Hc3]; · iexact Hc3
    isplitl [HO]; · iexact HO
    iexact Ha3
  iintro ⟨HO, Hs3, Hp3⟩
  ihave Hp3 := (Entails.of_eq (hopPay_send m true c h)) $$ Hp3
  iapply (wp_wait_hop m K true true c h (h.val + 1) (by show 2 + h.val < _; omega) h4 (by rw [n4, gslot_credit])) $$ [HO Hc4 Ha4]
  · isplitr; · iexact HR
    isplitr; · iexact HL
    isplitl [Hc4]; · iexact Hc4
    isplitl [HO]; · iexact HO
    iexact Ha4
  iintro ⟨HO, Hs4, Hp4⟩
  ihave Hp4 := (Entails.of_eq (hopPay_recv_o m c h)) $$ Hp4
  iapply Hk
  isplitr [HO]
  · isplitl [Hback Hs1 Hs2 Hs3 Hs4 Hp1 Hp3 Hq Ho]
    · iapply Hback
      unfold hop2
      isplitl [Hs1 Hs2 Hp1 Hq]
      · isplitl [Hs1]; · iexact Hs1
        isplitl [Hs2]; · iexact Hs2
        iapply (slotPts_split false c (back c h.val) (GG m false)).2
        isplitl [Hp1]; · iexact Hp1
        iexact Hq
      · isplitl [Hs3]; · iexact Hs3
        isplitl [Hs4]; · iexact Hs4
        iapply (slotPts_split true c (back c h.val) (GG m true)).2
        isplitl [Hp3]; · iexact Hp3
        iexact Ho
    · unfold slots
      isplitl [Hp2]; · iexact Hp2
      iexact Hp4
  · iexact HO

end Cert.RingProof

end
-- ==== Proof.Loads.lean ====
/-
# Loads and stores on the state they read and write
-/
module

public import proofs.«01_k».proof.Proof.Rules
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {α : Type} {Q : α → sProp (MT nD τ sig Unit (Elt F) ℕ UU ℕ)}

/-! ## Staging buffers and the narrowed activations, read and written whole -/

omit [FloatOps F] in
theorem emb_full {s : Shape} {off : Fin s.rank → ℕ} (h : off = fun _ => 0) (inb) (j : s.Idx) : (Rect.unit (s := s) off s.size inb).emb j = j := by
  subst h
  funext a
  exact Fin.ext (show 0 + 1 * (j a).val = (j a).val by omega)
omit [FloatOps F] in
theorem read_full {sp : Space} {s : Shape} {e : EltTy} (mr : Memref sig .tc sp s e) {off : Fin s.rank → ℕ} (h : off = fun _ => 0) (inb)
    (f : mr.view.ref.ty.Contents (Elt F)) : (mr.view.slice (Rect.unit (s := s) off s.size inb)).read (Elt F) f = mr.view.read (Elt F) f := by
  funext j
  show mr.view.read (Elt F) f ((Rect.unit (s := s) off s.size inb).emb j) = _
  rw [emb_full h]

omit [FloatOps F] in
theorem slice_subset {sp : Space} {s : Shape} {e : EltTy} (mr : Memref sig .tc sp s e) (r : Rect s) : (mr.view.slice r).set ⊆ mr.view.set := by
  rw [View.set_slice]; exact Finset.map_subset_map.2 (Finset.subset_univ _)

/-- A load of a whole staging buffer. -/
theorem wp_load_full (c : Dev nD) {cs : CoreSpace} {s : Shape} {e : EltTy} (mr : Memref sig .tc cs s e) {off : Fin s.rank → ℕ} (h : off = fun _ => 0) (inb)
    (X : s.Idx → Elt F e) (q : PosShare TreeShare) {hl : mr.view.LoadsAt (Rect.unit (s := s) off s.size inb).toLoadRect}
    {k : (s.Idx → Elt F e) → Prog (TpuEff nD τ sig (Elt F) Λ₀ .tc) α} :
    (owns (c : Thread nD τ) mr q X : sProp 𝕄)
      ⊢ iprop((owns (c : Thread nD τ) mr q X -∗ WP c (k X) Q) -∗ WP c (.op (.load mr (Rect.unit (s := s) off s.size inb).toLoadRect hl) k) Q) := by
  unfold owns
  iintro ⟨%f, %hf, Hp⟩ Hk
  subst hf
  iapply (wp_load_rect (r := Rect.unit (s := s) off s.size inb) 𝒱₀ (c : Thread nD τ) none Set.univ (slice_subset mr _)) $$ Hp
  iintro Hp
  rw [show ((mr.access (Rect.unit (s := s) off s.size inb)).read (Elt F) f) = mr.view.read (Elt F) f from read_full mr h inb f]
  iapply Hk
  iexists f
  isplitr; · ipureintro; rfl
  iexact Hp

/-- A store of a whole staging buffer. -/
theorem wp_store_full (c : Dev nD) {cs : CoreSpace} {s : Shape} {e : EltTy} (mr : Memref sig .tc cs s e) {off : Fin s.rank → ℕ} (h : off = fun _ => 0) (inb)
    (X w : s.Idx → Elt F e) {hx : (mr.access (Rect.unit (s := s) off s.size inb)).Stores Finset.univ} {hm}
    {k : PUnit → Prog (TpuEff nD τ sig (Elt F) Λ₀ .tc) α} :
    (owns (c : Thread nD τ) mr fullShare X : sProp 𝕄)
      ⊢ iprop((owns (c : Thread nD τ) mr fullShare w -∗ WP c (k ⟨⟩) Q) -∗ WP c (.op (.store mr (Rect.unit (s := s) off s.size inb) w Finset.univ hx hm) k) Q) := by
  unfold owns
  iintro ⟨%f, %hf, Hp⟩ Hk
  iapply (wp_store (m := mr) (r := Rect.unit (s := s) off s.size inb) 𝒱₀ (c : Thread nD τ) none Set.univ (by rw [View.setOn_univ]; exact slice_subset mr _)) $$ Hp
  iintro Hp
  iapply Hk
  iexists ((mr.access (Rect.unit (s := s) off s.size inb)).write (Elt F) f w Finset.univ)
  isplitr
  · ipureintro
    exact (read_full mr h inb _).symm.trans (View.read_write_univ _ _)
  iexact Hp

/-- Device `c`'s narrowed activations. -/
abbrev xbf (c : Dev nD) (X : Vec F S2x512x768 .bf16) : sProp 𝕄 := owns (c : Thread nD τ) (Memref.whole cc0_scratch0) fullShare X

/-- Sequence `b` of the narrowed activations. -/
def xRow (c : Dev nD) (b : ℕ) (hb : b < 2) : Vec F S1x512x768 .bf16 := fun i => XB m c (ValueIdx.ix3 ⟨b, hb⟩ (i 1) (i 2))

theorem wp_load_x (c : Dev nD) (b : ℕ) (hb : b < 2) {off : Fin 3 → ℕ} (h : off = ![b, 0, 0]) (inb)
    {hl : (Memref.whole cc0_scratch0).view.LoadsAt (Rect.unit (s := S2x512x768) off S1x512x768.size inb).toLoadRect}
    {k : Vec F S1x512x768 .bf16 → Prog (TpuEff nD τ sig (Elt F) Λ₀ .tc) α} :
    (xbf c (XB m c) : sProp 𝕄)
      ⊢ iprop((xbf c (XB m c) -∗ WP c (k (xRow m c b hb)) Q)
        -∗ WP c (.op (.load (Memref.whole cc0_scratch0) (Rect.unit (s := S2x512x768) off S1x512x768.size inb).toLoadRect hl) k) Q) := by
  subst h
  unfold xbf owns
  iintro ⟨%f, %hf, Hp⟩ Hk
  have hf' : f = XB m c := hf
  subst hf'
  iapply (wp_load_rect (m := Memref.whole cc0_scratch0) (r := Rect.unit (s := S2x512x768) ![b, 0, 0] S1x512x768.size inb) (f := XB m c) 𝒱₀ (c : Thread nD τ) none Set.univ
    (slice_subset (Memref.whole cc0_scratch0) _)) $$ Hp
  iintro Hp
  have hv : (((Memref.whole cc0_scratch0).access (Rect.unit (s := S2x512x768) ![b, 0, 0] S1x512x768.size inb)).read (Elt F) (XB m c)) = xRow m c b hb := by
    funext j
    refine congrArg (XB m c) (funext fun a => Fin.ext ?_)
    have h0 : (j 0).val = 0 := by have : (j 0).val < 1 := (j 0).isLt; omega
    match a with
    | 0 => show b + 1 * (j 0).val = b; omega
    | 1 => show 0 + 1 * (j 1).val = (j 1).val; omega
    | 2 => show 0 + 1 * (j 2).val = (j 2).val; omega
  rw [hv]
  iapply Hk
  iexists _
  isplitr; · ipureintro; exact hf
  iexact Hp

/-! ## The slots -/

theorem read_slot0 (k : Fin 8) {off : Fin 3 → ℕ} (h : off = ![k.val, 0, 0]) (inb) :
    ((Memref.whole cc0_scratch1).access (Rect.unit (s := S8x768x512) off S1x768x512.size inb)).read (Elt F) (QG m) = wqB m k := by
  subst h
  funext j
  have h0 : (j 0).val = 0 := by have : (j 0).val < 1 := (j 0).isLt; omega
  have e0 : (Rect.unit (s := S8x768x512) ![k.val, 0, 0] S1x768x512.size inb).emb j 0 = k := Fin.ext (show k.val + 1 * (j 0).val = k.val by omega)
  show wqB m ((Rect.unit (s := S8x768x512) ![k.val, 0, 0] S1x768x512.size inb).emb j 0) _ = _
  rw [e0]
  refine congrArg (wqB m k) (funext fun a => Fin.ext ?_)
  match a with
  | 0 => show 0 = (j 0).val; omega
  | 1 => show 0 + 1 * (j 1).val = (j 1).val; omega
  | 2 => show 0 + 1 * (j 2).val = (j 2).val; omega
theorem read_slot1 (k : Fin 8) {off : Fin 3 → ℕ} (h : off = ![k.val, 0, 0]) (inb) :
    ((Memref.whole cc0_scratch2).access (Rect.unit (s := S8x512x768) off S1x512x768.size inb)).read (Elt F) (OG m) = woB m k := by
  subst h
  funext j
  have h0 : (j 0).val = 0 := by have : (j 0).val < 1 := (j 0).isLt; omega
  have e0 : (Rect.unit (s := S8x512x768) ![k.val, 0, 0] S1x512x768.size inb).emb j 0 = k := Fin.ext (show k.val + 1 * (j 0).val = k.val by omega)
  show woB m ((Rect.unit (s := S8x512x768) ![k.val, 0, 0] S1x512x768.size inb).emb j 0) _ = _
  rw [e0]
  refine congrArg (woB m k) (funext fun a => Fin.ext ?_)
  match a with
  | 0 => show 0 = (j 0).val; omega
  | 1 => show 0 + 1 * (j 1).val = (j 1).val; omega
  | 2 => show 0 + 1 * (j 2).val = (j 2).val; omega

omit [FloatOps F] in
theorem slot_set0 (k : Fin 8) {off : Fin 3 → ℕ} (h : off = ![k.val, 0, 0]) (inb) :
    ((Memref.whole cc0_scratch1).access (Rect.unit (s := S8x768x512) off S1x768x512.size inb) : View sig .tc _ _ _).set = (gslot false k).view.set := by
  subst h
  exact (View.set_reshape ((Memref.whole cc0_scratch1).access (Rect.unit (s := S8x768x512) ![k.val, 0, 0] S1x768x512.size inb)) _).symm
omit [FloatOps F] in
theorem slot_set1 (k : Fin 8) {off : Fin 3 → ℕ} (h : off = ![k.val, 0, 0]) (inb) :
    ((Memref.whole cc0_scratch2).access (Rect.unit (s := S8x512x768) off S1x512x768.size inb) : View sig .tc _ _ _).set = (gslot true k).view.set := by
  subst h
  exact (View.set_reshape ((Memref.whole cc0_scratch2).access (Rect.unit (s := S8x512x768) ![k.val, 0, 0] S1x512x768.size inb)) _).symm

/-- A load of slot `s` of the query array at any share. -/
theorem wp_load_slot0 (c : Dev nD) (s : Fin 8) (q : PosShare TreeShare) {off : Fin 3 → ℕ} (h : off = ![s.val, 0, 0]) (inb)
    {hl : (Memref.whole cc0_scratch1).view.LoadsAt (Rect.unit (s := S8x768x512) off S1x768x512.size inb).toLoadRect}
    {k : Vec F S1x768x512 .bf16 → Prog (TpuEff nD τ sig (Elt F) Λ₀ .tc) α} :
    (slotPts false c s q (QG m) : sProp 𝕄)
      ⊢ iprop((slotPts false c s q (QG m) -∗ WP c (k (wqB m s)) Q)
        -∗ WP c (.op (.load (Memref.whole cc0_scratch1) (Rect.unit (s := S8x768x512) off S1x768x512.size inb).toLoadRect hl) k) Q) := by
  rw [slotPts_false, ← read_slot0 m s h inb]
  exact wp_load_rect (m := Memref.whole cc0_scratch1) (r := Rect.unit (s := S8x768x512) off S1x768x512.size inb) (f := QG m) 𝒱₀ (c : Thread nD τ) none Set.univ
    (slot_set0 s h inb).le
theorem wp_load_slot1 (c : Dev nD) (s : Fin 8) (q : PosShare TreeShare) {off : Fin 3 → ℕ} (h : off = ![s.val, 0, 0]) (inb)
    {hl : (Memref.whole cc0_scratch2).view.LoadsAt (Rect.unit (s := S8x512x768) off S1x512x768.size inb).toLoadRect}
    {k : Vec F S1x512x768 .bf16 → Prog (TpuEff nD τ sig (Elt F) Λ₀ .tc) α} :
    (slotPts true c s q (OG m) : sProp 𝕄)
      ⊢ iprop((slotPts true c s q (OG m) -∗ WP c (k (woB m s)) Q)
        -∗ WP c (.op (.load (Memref.whole cc0_scratch2) (Rect.unit (s := S8x512x768) off S1x512x768.size inb).toLoadRect hl) k) Q) := by
  rw [slotPts_true, ← read_slot1 m s h inb]
  exact wp_load_rect (m := Memref.whole cc0_scratch2) (r := Rect.unit (s := S8x512x768) off S1x512x768.size inb) (f := OG m) 𝒱₀ (c : Thread nD τ) none Set.univ
    (slot_set1 s h inb).le

theorem slot_filled0 (c : Dev nD) (s : Fin 8) {off : Fin 3 → ℕ} (h : off = ![s.val, 0, 0]) (inb) (f : (gref false).ty.Contents (Elt F)) :
    (((Memref.whole cc0_scratch1).access (Rect.unit (s := S8x768x512) off S1x768x512.size inb) : View sig .tc _ _ _).loc (c : Thread nD τ) ↦[(gslot false s).view.set]{fullShare}
      ((Memref.whole cc0_scratch1).access (Rect.unit (s := S8x768x512) off S1x768x512.size inb)).write (Elt F) f (wqB m s) Finset.univ : sProp 𝕄) ⊢ slotPts false c s fullShare (QG m) := by
  rw [slotPts_false, ← slot_set0 s h inb, ← read_slot0 m s h inb]
  exact Entails.of_eq (pointsTo_congr (write_read_self ((Memref.whole cc0_scratch1).access (Rect.unit (s := S8x768x512) off S1x768x512.size inb)) f (QG m)))
/-- The load before a store, whose value goes unused, and the store of the device's own block. -/
theorem wp_fill_slot0 (c : Dev nD) (s : Fin 8) {off : Fin 3 → ℕ} (h : off = ![s.val, 0, 0]) (inb) (f : (gref false).ty.Contents (Elt F))
    {hl : (Memref.whole cc0_scratch1).view.LoadsAt (Rect.unit (s := S8x768x512) off S1x768x512.size inb).toLoadRect}
    {hx : ((Memref.whole cc0_scratch1).access (Rect.unit (s := S8x768x512) off S1x768x512.size inb)).Stores Finset.univ} {hm}
    {k : PUnit → Prog (TpuEff nD τ sig (Elt F) Λ₀ .tc) α} :
    (slotPts false c s fullShare f : sProp 𝕄)
      ⊢ iprop((slotPts false c s fullShare (QG m) -∗ WP c (k ⟨⟩) Q)
        -∗ WP c (.op (.load (Memref.whole cc0_scratch1) (Rect.unit (s := S8x768x512) off S1x768x512.size inb).toLoadRect hl) fun _ =>
            .op (.store (Memref.whole cc0_scratch1) (Rect.unit (s := S8x768x512) off S1x768x512.size inb) (wqB m s) Finset.univ hx hm) k) Q) := by
  iintro Hp Hk
  ihave Hp := (Entails.of_eq (slotPts_false c s _ f)) $$ Hp
  iapply (wp_load_rect (m := Memref.whole cc0_scratch1) (r := Rect.unit (s := S8x768x512) off S1x768x512.size inb) (f := f) 𝒱₀ (c : Thread nD τ) none Set.univ
    (slot_set0 s h inb).le) $$ Hp
  iintro Hp
  iapply (wp_store (m := Memref.whole cc0_scratch1) (r := Rect.unit (s := S8x768x512) off S1x768x512.size inb) (f := f) 𝒱₀ (c : Thread nD τ) none Set.univ
    ((View.setOn_univ _).le.trans (slot_set0 s h inb).le)) $$ Hp
  iintro Hp
  iapply Hk
  iapply (slot_filled0 m c s h inb f); iexact Hp
theorem slot_filled1 (c : Dev nD) (s : Fin 8) {off : Fin 3 → ℕ} (h : off = ![s.val, 0, 0]) (inb) (f : (gref true).ty.Contents (Elt F)) :
    (((Memref.whole cc0_scratch2).access (Rect.unit (s := S8x512x768) off S1x512x768.size inb) : View sig .tc _ _ _).loc (c : Thread nD τ) ↦[(gslot true s).view.set]{fullShare}
      ((Memref.whole cc0_scratch2).access (Rect.unit (s := S8x512x768) off S1x512x768.size inb)).write (Elt F) f (woB m s) Finset.univ : sProp 𝕄) ⊢ slotPts true c s fullShare (OG m) := by
  rw [slotPts_true, ← slot_set1 s h inb, ← read_slot1 m s h inb]
  exact Entails.of_eq (pointsTo_congr (write_read_self ((Memref.whole cc0_scratch2).access (Rect.unit (s := S8x512x768) off S1x512x768.size inb)) f (OG m)))
theorem wp_fill_slot1 (c : Dev nD) (s : Fin 8) {off : Fin 3 → ℕ} (h : off = ![s.val, 0, 0]) (inb) (f : (gref true).ty.Contents (Elt F))
    {hl : (Memref.whole cc0_scratch2).view.LoadsAt (Rect.unit (s := S8x512x768) off S1x512x768.size inb).toLoadRect}
    {hx : ((Memref.whole cc0_scratch2).access (Rect.unit (s := S8x512x768) off S1x512x768.size inb)).Stores Finset.univ} {hm}
    {k : PUnit → Prog (TpuEff nD τ sig (Elt F) Λ₀ .tc) α} :
    (slotPts true c s fullShare f : sProp 𝕄)
      ⊢ iprop((slotPts true c s fullShare (OG m) -∗ WP c (k ⟨⟩) Q)
        -∗ WP c (.op (.load (Memref.whole cc0_scratch2) (Rect.unit (s := S8x512x768) off S1x512x768.size inb).toLoadRect hl) fun _ =>
            .op (.store (Memref.whole cc0_scratch2) (Rect.unit (s := S8x512x768) off S1x512x768.size inb) (woB m s) Finset.univ hx hm) k) Q) := by
  iintro Hp Hk
  ihave Hp := (Entails.of_eq (slotPts_true c s _ f)) $$ Hp
  iapply (wp_load_rect (m := Memref.whole cc0_scratch2) (r := Rect.unit (s := S8x512x768) off S1x512x768.size inb) (f := f) 𝒱₀ (c : Thread nD τ) none Set.univ
    (slot_set1 s h inb).le) $$ Hp
  iintro Hp
  iapply (wp_store (m := Memref.whole cc0_scratch2) (r := Rect.unit (s := S8x512x768) off S1x512x768.size inb) (f := f) 𝒱₀ (c : Thread nD τ) none Set.univ
    ((View.setOn_univ _).le.trans (slot_set1 s h inb).le)) $$ Hp
  iintro Hp
  iapply Hk
  iapply (slot_filled1 m c s h inb f); iexact Hp

/-! ## The rows of the landed key and value blocks -/

/-- Head `j` of step `n`'s key block, and of its value block. -/
def kRow (c : Dev nD) (n : Fin 16) (j : Fin 8) : Vec F S1x512x1x64 .f32 := fun i => arr m c main_arg2 (srcIx c n (ValueIdx.ix4 0 (i 1) j (i 3)))
def vRow (c : Dev nD) (n : Fin 16) (j : Fin 8) : Vec F S1x512x1x64 .f32 := fun i => arr m c main_arg3 (srcIx c n (ValueIdx.ix4 0 (i 1) j (i 3)))

omit [FloatOps F] in
theorem row_subset (p : Fin 2) (j : Fin 8) {off : Fin 4 → ℕ} (h : off = ![p.val, 0, j.val, 0]) (inb) :
    (Rect.unit (s := S2x512x8x64) off S1x512x1x64.size inb).set ⊆ (Rect.unit (s := S2x512x8x64) ![p.val, 0, 0, 0] S1x512x8x64.size (half_inb p)).set := by
  subst h
  intro i hi
  rw [mem_half]
  have h0 := Rect.mem_set_unit.1 hi 0
  have ha : p.val ≤ (i 0).val := h0.1
  have hb : (i 0).val < p.val + 1 := h0.2
  exact Fin.ext (by omega)

omit [FloatOps F] in
theorem row_ix (c : Dev nD) (n : Fin 16) (p : Fin 2) (j : Fin 8) (inb) (y : S1x512x1x64.Idx) :
    srcIx c n ((Rect.unit (s := S2x512x8x64) ![p.val, 0, j.val, 0] S1x512x1x64.size inb).emb y) = srcIx c n (ValueIdx.ix4 0 (y 1) j (y 3)) := by
  have h2 : (y 2).val = 0 := by have : (y 2).val < 1 := (y 2).isLt; omega
  funext a
  refine Fin.ext ?_
  match a with
  | 0 => rfl
  | 1 => show 0 + 1 * (y 1).val = (y 1).val; omega
  | 2 => show 8 * (back c n.val).val + (j.val + 1 * (y 2).val) = 8 * (back c n.val).val + j.val; omega
  | 3 => show 0 + 1 * (y 3).val = (y 3).val; omega

theorem wp_load_k (c : Dev nD) (p : Fin 2) (n : Fin 16) (j : Fin 8) {off : Fin 4 → ℕ} (h : off = ![p.val, 0, j.val, 0]) (inb)
    {hl : (Memref.whole cc0_scratch3).view.LoadsAt (Rect.unit (s := S2x512x8x64) off S1x512x1x64.size inb).toLoadRect}
    {k : Vec F S1x512x1x64 .f32 → Prog (TpuEff nD τ sig (Elt F) Λ₀ .tc) α} :
    (kvHalf false c p (KB m false c n) : sProp 𝕄)
      ⊢ iprop((kvHalf false c p (KB m false c n) -∗ WP c (k (kRow m c n j)) Q)
        -∗ WP c (.op (.load (Memref.whole cc0_scratch3) (Rect.unit (s := S2x512x8x64) off S1x512x1x64.size inb).toLoadRect hl) k) Q) := by
  have hv : ((Memref.whole cc0_scratch3).access (Rect.unit (s := S2x512x8x64) off S1x512x1x64.size inb)).read (Elt F) (KB m false c n) = kRow m c n j := by
    subst h
    funext y
    exact congrArg (arr m c main_arg2) (row_ix c n p j inb y)
  rw [kvHalf_false, ← hv]
  refine wp_load_rect (m := Memref.whole cc0_scratch3) (r := Rect.unit (s := S2x512x8x64) off S1x512x1x64.size inb) (f := KB m false c n) 𝒱₀ (c : Thread nD τ) none Set.univ ?_
  rw [kvBuf0_set]
  refine subset_trans (Finset.Subset.refl _) (subset_trans ?_ (row_subset p j h inb))
  show ((View.whole cc0_scratch3).slice _).set ⊆ _
  rw [View.set_slice_whole]
theorem wp_load_v (c : Dev nD) (p : Fin 2) (n : Fin 16) (j : Fin 8) {off : Fin 4 → ℕ} (h : off = ![p.val, 0, j.val, 0]) (inb)
    {hl : (Memref.whole cc0_scratch4).view.LoadsAt (Rect.unit (s := S2x512x8x64) off S1x512x1x64.size inb).toLoadRect}
    {k : Vec F S1x512x1x64 .f32 → Prog (TpuEff nD τ sig (Elt F) Λ₀ .tc) α} :
    (kvHalf true c p (KB m true c n) : sProp 𝕄)
      ⊢ iprop((kvHalf true c p (KB m true c n) -∗ WP c (k (vRow m c n j)) Q)
        -∗ WP c (.op (.load (Memref.whole cc0_scratch4) (Rect.unit (s := S2x512x8x64) off S1x512x1x64.size inb).toLoadRect hl) k) Q) := by
  have hv : ((Memref.whole cc0_scratch4).access (Rect.unit (s := S2x512x8x64) off S1x512x1x64.size inb)).read (Elt F) (KB m true c n) = vRow m c n j := by
    subst h
    funext y
    exact congrArg (arr m c main_arg3) (row_ix c n p j inb y)
  rw [kvHalf_true, ← hv]
  refine wp_load_rect (m := Memref.whole cc0_scratch4) (r := Rect.unit (s := S2x512x8x64) off S1x512x1x64.size inb) (f := KB m true c n) 𝒱₀ (c : Thread nD τ) none Set.univ ?_
  rw [kvBuf1_set]
  refine subset_trans (Finset.Subset.refl _) (subset_trans ?_ (row_subset p j h inb))
  show ((View.whole cc0_scratch4).slice _).set ⊆ _
  rw [View.set_slice_whole]

end Cert.RingProof

end
-- ==== Proof.Slots.lean ====
/-
# The gathered arrays, whole and by slots
-/
module

public import proofs.«01_k».proof.Proof.State
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The gathered arrays, whole and by slots -/

/-- A gathered array held whole. -/
def gWhole : (o : Bool) → (c : Dev nD) → sProp 𝕄
  | false, c => iprop(∃ f, (gslot false 0).view.loc (c : Thread nD τ) ↦[Finset.univ]{fullShare} f)
  | true, c => iprop(∃ f, (gslot true 0).view.loc (c : Thread nD τ) ↦[Finset.univ]{fullShare} f)
def slotAny (o : Bool) (c : Dev nD) (k : Fin 8) : sProp 𝕄 := iprop(∃ f, slotPts o c k fullShare f)

omit [FloatOps F] in
theorem slots_cover0 : (Finset.univ : Finset (Fin 8)).biUnion (fun k => (gslot false k).view.set) = (Finset.univ : Finset S8x768x512.Idx) :=
  Finset.eq_univ_iff_forall.2 fun i => Finset.mem_biUnion.2 ⟨i 0, Finset.mem_univ _, (mem_gslot0 _ _).2 rfl⟩
omit [FloatOps F] in
theorem slots_cover1 : (Finset.univ : Finset (Fin 8)).biUnion (fun k => (gslot true k).view.set) = (Finset.univ : Finset S8x512x768.Idx) :=
  Finset.eq_univ_iff_forall.2 fun i => Finset.mem_biUnion.2 ⟨i 0, Finset.mem_univ _, (mem_gslot1 _ _).2 rfl⟩
omit [FloatOps F] in
theorem slots_disj0 : ∀ k ∈ (Finset.univ : Finset (Fin 8)), ∀ k' ∈ (Finset.univ : Finset (Fin 8)), k ≠ k' → Disjoint (gslot false k).view.set (gslot false k').view.set :=
  fun k _ k' _ hk => Finset.disjoint_left.2 fun i h h' => hk (((mem_gslot0 k i).1 h).symm.trans ((mem_gslot0 k' i).1 h'))
omit [FloatOps F] in
theorem slots_disj1 : ∀ k ∈ (Finset.univ : Finset (Fin 8)), ∀ k' ∈ (Finset.univ : Finset (Fin 8)), k ≠ k' → Disjoint (gslot true k).view.set (gslot true k').view.set :=
  fun k _ k' _ hk => Finset.disjoint_left.2 fun i h h' => hk (((mem_gslot1 k i).1 h).symm.trans ((mem_gslot1 k' i).1 h'))

omit [FloatOps F] in
theorem gWhole_out (o : Bool) (c : Dev nD) : (gWhole o c : sProp 𝕄) ⊢ bigSep Finset.univ fun k : Fin 8 => slotAny o c k := by
  cases o
  · refine exists_elim fun f => ?_
    refine (Entails.of_eq (by rw [← slots_cover0, pointsTo_biUnion _ _ slots_disj0])).trans (bigSep_mono fun k _ => ?_)
    exact exists_intro (Φ := fun f => slotPts false c k fullShare f) f
  · refine exists_elim fun f => ?_
    refine (Entails.of_eq (by rw [← slots_cover1, pointsTo_biUnion _ _ slots_disj1])).trans (bigSep_mono fun k _ => ?_)
    exact exists_intro (Φ := fun f => slotPts true c k fullShare f) f

include m in
theorem gWhole_in (o : Bool) (c : Dev nD) : (bigSep Finset.univ fun k : Fin 8 => (slotAny o c k : sProp 𝕄)) ⊢ gWhole o c := by
  cases o
  · unfold slotAny
    haveI : ∀ _ : Fin 8, Nonempty ((gref false).ty.Contents (Elt F)) := fun _ => ⟨QG m⟩
    refine (Idealize.SL.BI.bigSep_exists_pi Finset.univ (fun (k : Fin 8) f => (slotPts false c k fullShare f : sProp 𝕄))).trans (exists_elim fun fs => ?_)
    refine (pointsTo_biUnion_join (ℓ := (gslot false 0).view.loc (c : Thread nD τ)) Finset.univ (fun k => (gslot false k).view.set) fs (fs 0) slots_disj0).trans ?_
    rw [slots_cover0]
    iintro ⟨%g, -, H⟩
    unfold gWhole
    iexists g; iexact H
  · unfold slotAny
    haveI : ∀ _ : Fin 8, Nonempty ((gref true).ty.Contents (Elt F)) := fun _ => ⟨OG m⟩
    refine (Idealize.SL.BI.bigSep_exists_pi Finset.univ (fun (k : Fin 8) f => (slotPts true c k fullShare f : sProp 𝕄))).trans (exists_elim fun fs => ?_)
    refine (pointsTo_biUnion_join (ℓ := (gslot true 0).view.loc (c : Thread nD τ)) Finset.univ (fun k => (gslot true k).view.set) fs (fs 0) slots_disj1).trans ?_
    rw [slots_cover1]
    iintro ⟨%g, -, H⟩
    unfold gWhole
    iexists g; iexact H

omit [FloatOps F] in
/-- The first place and the seven after it. -/
theorem bigSep_fin8 (Φ : Fin 8 → sProp (MT nD τ sig Unit (Elt F) ℕ UU ℕ)) :
    bigSep Finset.univ Φ = iprop(Φ 0 ∗ bigSep Finset.univ fun h : Fin 7 => Φ h.succ) := by
  rw [bigSep_univ_equiv (finSumFinEquiv : Fin 1 ⊕ Fin 7 ≃ Fin 8), bigSep_univ_sum, Finset.univ_unique, bigSep_singleton]
  refine congrArg (fun x => iprop(Φ 0 ∗ x)) (congrArg _ (funext fun h => congrArg Φ (Fin.ext ?_)))
  show 1 + h.val = h.val + 1
  omega
omit [FloatOps F] in
/-- The seven places before the last and the last. -/
theorem bigSep_fin8' (Φ : Fin 8 → sProp (MT nD τ sig Unit (Elt F) ℕ UU ℕ)) :
    bigSep Finset.univ Φ = iprop((bigSep Finset.univ fun h : Fin 7 => Φ h.castSucc) ∗ Φ 7) := by
  rw [bigSep_univ_equiv (finSumFinEquiv : Fin 7 ⊕ Fin 1 ≃ Fin 8), bigSep_univ_sum, Finset.univ_unique (α := Fin 1), bigSep_singleton]
  rfl

omit [FloatOps F] in
/-- What device `c` gives its left neighbour at the start, and what it keeps. -/
theorem gWhole_split (o : Bool) (c : Dev nD) : (gWhole o c : sProp 𝕄) ⊢ iprop(slotAny o c (back c 0) ∗ slotsFree o (left c)) := by
  refine (gWhole_out o c).trans ?_
  rw [bigSep_univ_equiv (backE c), bigSep_fin8]
  refine sep_mono_right (Entails.of_eq (congrArg _ (funext fun h => ?_)))
  show slotAny o c (back c (h.val + 1)) = iprop(∃ f, slotPts o (right (left c)) (back (left c) h.val) fullShare f)
  rw [← back_right (left c) h, right_left]
  rfl

/-- The rings when every hop is closed: the semaphores, and both arrays. -/
theorem ringS_end (c : Dev nD) : ringS m c 7 7 ⊢ iprop((bigSep Finset.univ fun h : Fin 7 =>
      iprop((semVal (hopCell false false h c) 0 ∗ semVal (hopCell false true h c) 0) ∗ (semVal (hopCell true false h c) 0 ∗ semVal (hopCell true true h c) 0)))
    ∗ gWhole false c ∗ gWhole true c) := by
  have hp : ∀ h : Fin 7, phase 7 7 h = 2 := fun h => by unfold phase; rw [if_pos h.isLt]
  have key : ∀ h : Fin 7, iprop(hopSt m false c h (phase 7 7 h) ∗ hopSt m true c h (phase 7 7 h))
      ⊢ iprop(iprop((semVal (hopCell false false h c) 0 ∗ semVal (hopCell false true h c) 0) ∗ (semVal (hopCell true false h c) 0 ∗ semVal (hopCell true true h c) 0))
        ∗ (slotAny false c (back c h.val) ∗ slotAny true c (back c h.val))) := fun h => by
    rw [hp, hopSt_2, hopSt_2]; unfold hop2 slotAny
    iintro ⟨⟨H1, H2, H3⟩, ⟨H4, H5, H6⟩⟩
    isplitl [H1 H2 H4 H5]
    · isplitl [H1 H2]
      · isplitl [H1]; · iexact H1
        iexact H2
      · isplitl [H4]; · iexact H4
        iexact H5
    · isplitl [H3]
      · iexists _; iexact H3
      · iexists _; iexact H6
  unfold ringS hops slots
  rw [if_pos rfl]
  refine (sep_mono_left (bigSep_mono fun h _ => key h)).trans ?_
  have e : (bigSep Finset.univ fun h : Fin 7 => (iprop(slotAny false c (back c h.val) ∗ slotAny true c (back c h.val)) : sProp 𝕄))
      = iprop((bigSep Finset.univ fun h : Fin 7 => (slotAny false c (back c h.val) : sProp 𝕄)) ∗ bigSep Finset.univ fun h : Fin 7 => (slotAny true c (back c h.val) : sProp 𝕄)) := bigSep_sep' _ _ _
  rw [bigSep_sep', e]
  have join : ∀ o, iprop((bigSep Finset.univ fun h : Fin 7 => (slotAny o c (back c h.val) : sProp 𝕄)) ∗ slotAny o c (back c 7)) ⊢ gWhole o c := fun o => by
    refine (Entails.of_eq ?_).trans (gWhole_in m o c)
    rw [bigSep_univ_equiv (backE c) (fun k => slotAny o c k), bigSep_fin8']
    rfl
  iintro ⟨⟨Hs, Hq, Ho⟩, Hq', Ho'⟩
  isplitl [Hs]; · iexact Hs
  isplitl [Hq Hq']
  · iapply (join false)
    isplitl [Hq]; · iexact Hq
    unfold slotAny; iexists _; iexact Hq'
  · iapply (join true)
    isplitl [Ho]; · iexact Ho
    unfold slotAny; iexists _; iexact Ho'

end Cert.RingProof

end
-- ==== Proof.Body3.lean ====
/-
# The body's first part: the prologue and the ring
-/
module

public import proofs.«01_k».proof.Proof.Steps
public import proofs.«01_k».proof.Proof.Loads
public import proofs.«01_k».proof.Proof.Slots
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## The two copy lanes -/

/-- The half that step `n` uses. -/
def par (n : ℕ) : Fin 2 := ⟨n % 2, Nat.mod_lt _ (by decide)⟩
def st (t : Fin cfg0.N) : Fin 16 := t.cast N16
def laneIdle (c : Dev nD) (n : ℕ) : sProp 𝕄 := iprop(kvIdle m false c (par n) ∗ kvIdle m true c (par n))
def laneFly (c : Dev nD) (n : Fin 16) : sProp 𝕄 := iprop(kvFly m false c (par n.val) n ∗ kvFly m true c (par n.val) n)
def laneGot (c : Dev nD) (n : Fin 16) : sProp 𝕄 := iprop(kvGot m false c (par n.val) n ∗ kvGot m true c (par n.val) n)

theorem WP_ret {α : Type} (c : Dev nD) (a : α) (Q : α → sProp (MT nD τ sig Unit (Elt F) ℕ UU ℕ)) : Q a ⊢ WP c (.ret a) Q := by
  unfold WP
  rw [wp_ret]
  iintro H; imodintro; iexact H

section Parts
variable (t : Fin cfg0.N)
variable (a2 : Memref sig .tc .vmem S2x512x768 .f32) (h2 : a2.IsWhole) (a3 : Memref sig .tc .vmem S768x512 .f32) (h3 : a3.IsWhole)
variable (a6 : Memref sig .tc .vmem S512x768 .f32) (h6 : a6.IsWhole) (a7 : Memref sig .tc .vmem S1x512x768 .f32) (h7 : a7.IsWhole)

/-- The first part of the body at point `t`. -/
abbrev p3 := k0_part3 (F := F) (grid0.coords t) a2 h2 a3 h3 (Memref.whole main_arg2) (Memref.isWhole_whole _) (Memref.whole main_arg3) (Memref.isWhole_whole _) a6 h6 a7 h7
  (Memref.whole cc0_scratch0) (Memref.isWhole_whole _) (Memref.whole cc0_scratch1) (Memref.isWhole_whole _) (Memref.whole cc0_scratch2) (Memref.isWhole_whole _)
  (Memref.whole cc0_scratch3) (Memref.isWhole_whole _) (Memref.whole cc0_scratch4) (Memref.isWhole_whole _) cc0_scratch5 cc0_scratch6 cc0_scratch7 cc0_scratch8 cc0_scratch9

/-- The words that the first part hands on. -/
abbrev res3 (i : grid0.Coords) (c : Dev nD) : Σ' (arg0 : BitVec 32) (arg1 : BitVec 32) (v1 : BitVec 32) (d2 : Dev nD) (v4 : BitVec 32) (v12 : BitVec 32) (v13 : BitVec 32), BitVec 32 :=
  ⟨BitVec.ofNat 32 (i 0).val, BitVec.ofNat 32 (i 1).val, Scalar.addi (Scalar.muli (BitVec.ofNat 32 (i 0).val) 8#32) (BitVec.ofNat 32 (i 1).val), c,
    Scalar.remsi (Scalar.divsi (Dev.word c) 1#32) 8#32,
    Scalar.remsi (Scalar.addi (Scalar.subi (Scalar.remsi (Scalar.divsi (Dev.word c) 1#32) 8#32) (BitVec.ofNat 32 (i 1).val)) 8#32) 8#32,
    Scalar.remsi (Scalar.addi (Scalar.muli (BitVec.ofNat 32 (i 0).val) 8#32) (BitVec.ofNat 32 (i 1).val)) 2#32, 1#32⟩

/-- After the ring is done the first part does nothing. -/
theorem part3_late (c : Dev nD) (ht : 8 ≤ t.val) (Kt : _ → sProp (MT nD τ sig Unit (Elt F) ℕ UU ℕ)) :
    Kt (res3 (grid0.coords t) c) ⊢ WP c (p3 t a2 h2 a3 h3 a6 h6 a7 h7) Kt := by
  have e1 := mt (cond1_iff t).1 (by omega)
  have e2 := mt (cond2_iff t).1 (by omega)
  have e3 := mt (cond3_iff t).1 (by omega)
  unfold p3
  rw [k0_part3_eq_skeleton]
  unfold k0_part3_skel
  simp only [dif_neg e1, dif_neg e2, dif_neg e3, Prog.lift, Prog.bind_op, Prog.bind_ret, Prog.pure_eq_ret, wp_deviceId]
  exact WP_ret c _ _

/-- Once the prologue is past: hop `t - 1` closes, and hop `t` starts while there is one. -/
theorem part3_next (c : Dev nD) (ht : 1 ≤ t.val) (Kt : _ → sProp (MT nD τ sig Unit (Elt F) ℕ UU ℕ)) :
    iprop(records m K ∗ levAts L lv ∗ ringS m c (min (t.val - 1) 7) (min t.val 7) ∗ Owe c (owedFrom c (min t.val 7))
        ∗ ((ringS m c (min t.val 7) (min (t.val + 1) 7) ∗ Owe c (owedFrom c (min (t.val + 1) 7))) -∗ Kt (res3 (grid0.coords t) c)))
      ⊢ WP c (p3 t a2 h2 a3 h3 a6 h6 a7 h7) Kt := by
  have e1 := mt (cond1_iff t).1 (by omega)
  by_cases h8 : 8 ≤ t.val
  · rw [show min (t.val - 1) 7 = 7 by omega, show min t.val 7 = 7 by omega, show min (t.val + 1) 7 = 7 by omega]
    iintro ⟨-, -, HS, HO, Hk⟩
    iapply (part3_late t a2 h2 a3 h3 a6 h6 a7 h7 c h8 Kt)
    iapply Hk
    isplitl [HS]; · iexact HS
    iexact HO
  obtain ⟨h, hh⟩ : ∃ h : Fin 7, t.val = h.val + 1 := ⟨⟨t.val - 1, by omega⟩, by show t.val = t.val - 1 + 1; omega⟩
  have e2 := (cond2_iff t).2 (by omega)
  have ho7 : k0_off7 (grid0.coords t) = ![h.val] := by rw [off7_at t (by omega), hh]; rfl
  rw [show min (t.val - 1) 7 = h.val by omega, show min t.val 7 = h.val + 1 by omega]
  unfold p3
  rw [k0_part3_eq_skeleton]
  unfold k0_part3_skel
  by_cases h7' : t.val < 7
  · have e3 := (cond3_iff t).2 h7'
    have hg : (⟨h.val + 1, by omega⟩ : Fin 7).val = t.val := hh.symm
    rw [show min (t.val + 1) 7 = h.val + 1 + 1 by omega]
    simp only [dif_neg e1, dif_pos e2, dif_pos e3, Prog.lift, Prog.bind_op, Prog.bind_ret, Prog.pure_eq_ret, wp_deviceId]
    iintro ⟨#HR, #HL, HS, HO, Hk⟩
    iapply (wp_ring_wait m K c h (ss_q_of h ho7 _) (rs_q_of h ho7 _) (ss_o_of h ho7 _) (rs_o_of h ho7 _) (back c t.val) (gslot0_of _ (off8_at t c) _) (gslot0_of _ (off8_at t c) _) (gslot1_of _ (off9_at t c) _) (gslot1_of _ (off9_at t c) _)) $$ [HS HO]
    · isplitr; · iexact HR
      isplitr; · iexact HL
      isplitl [HS]; · iexact HS
      iexact HO
    iintro ⟨HS, HO⟩
    have ho10 : k0_off10 (grid0.coords t) = ![(⟨h.val + 1, by omega⟩ : Fin 7).val] := by rw [off10_at t (by omega), hg]
    have ho11 : k0_off11 (grid0.coords t) c = ![(back c (⟨h.val + 1, by omega⟩ : Fin 7).val).val, 0, 0] := by rw [off11_at, hg]
    have ho12 : k0_off12 (grid0.coords t) c = ![(back c (⟨h.val + 1, by omega⟩ : Fin 7).val).val, 0, 0] := by rw [off12_at, hg]
    iapply (wp_ring_send m K c _ _ ⟨h.val + 1, by omega⟩ (dev3_at c _) (dev4_at c _) (gslot0_of _ ho11 _) (gslot0_of _ ho11 _) (gslot1_of _ ho12 _) (gslot1_of _ ho12 _)
      (ss_q_of _ ho10 _) (rs_q_of _ ho10 _) (ss_o_of _ ho10 _) (rs_o_of _ ho10 _)) $$ [HS HO]
    · isplitr; · iexact HR
      isplitl [HS]; · iexact HS
      iexact HO
    iintro ⟨HS, HO⟩
    iapply (WP_ret c _ _)
    iapply Hk
    isplitl [HS]; · iexact HS
    iexact HO
  · have e3 := mt (cond3_iff t).1 h7'
    rw [show min (t.val + 1) 7 = h.val + 1 by omega]
    simp only [dif_neg e1, dif_pos e2, dif_neg e3, Prog.lift, Prog.bind_op, Prog.bind_ret, Prog.pure_eq_ret, wp_deviceId]
    iintro ⟨#HR, #HL, HS, HO, Hk⟩
    iapply (wp_ring_wait m K c h (ss_q_of h ho7 _) (rs_q_of h ho7 _) (ss_o_of h ho7 _) (rs_o_of h ho7 _) (back c t.val) (gslot0_of _ (off8_at t c) _) (gslot0_of _ (off8_at t c) _) (gslot1_of _ (off9_at t c) _) (gslot1_of _ (off9_at t c) _)) $$ [HS HO]
    · isplitr; · iexact HR
      isplitr; · iexact HL
      isplitl [HS]; · iexact HS
      iexact HO
    iintro ⟨HS, HO⟩
    iapply (WP_ret c _ _)
    iapply Hk
    isplitl [HS]; · iexact HS
    iexact HO

/-- What device `c` holds of the barrier, the rings and the narrowed arrays at the start. -/
def startS (c : Dev nD) : sProp 𝕄 :=
  iprop((atPos ER (barCell c) 0 ∅ 0 ∗ cred (tallyAt (barCell c) () 2) ∗ dutyTok ER (barCell (left c)) 0 true ∗ dutyTok ER (barCell (right c)) 0 false)
    ∗ (bigSep Finset.univ fun h : Fin 7 => iprop(hopPre (F := F) false c h ∗ hopPre (F := F) true c h))
    ∗ (∃ X, xbf c X) ∗ gWhole (F := F) false c ∗ gWhole (F := F) true c)

theorem hops_init (c : Dev nD) : iprop((bigSep Finset.univ fun h : Fin 7 => iprop(hopPre (F := F) false c h ∗ hopPre (F := F) true c h))
    ∗ slotsFree (F := F) false c ∗ slotsFree (F := F) true c) ⊢ hops m c 0 0 := by
  have hp : ∀ h : Fin 7, phase 0 0 h = 0 := fun h => by unfold phase; rw [if_neg (Nat.not_lt_zero _), if_neg (Nat.not_lt_zero _)]
  unfold slotsFree hops
  rw [← bigSep_sep', ← bigSep_sep']
  refine bigSep_mono fun h _ => ?_
  rw [hp]
  show _ ⊢ iprop(hop0 false c h ∗ hop0 true c h)
  unfold hop0
  iintro ⟨⟨H1, H2⟩, H3, H4⟩
  isplitl [H1 H3]
  · isplitl [H1]; · iexact H1
    iexact H3
  · isplitl [H2]; · iexact H2
    iexact H4

/-- The first point's prologue, and hop 0's sends. -/
theorem part3_first (c : Dev nD) (ht : t.val = 0) (q2 q3 q6 : PosShare TreeShare) (Kt : _ → sProp (MT nD τ sig Unit (Elt F) ℕ UU ℕ)) :
    iprop(records m K ∗ levAts L lv ∗ startS (F := F) c ∗ Owe c (O₀ c) ∗ laneIdle m c t.val
        ∗ owns (c : Thread nD τ) a2 q2 (xS m c) ∗ owns (c : Thread nD τ) a3 q3 (wqS m c) ∗ owns (c : Thread nD τ) a6 q6 (woS m c)
        ∗ ((semVal (barCell c) 0 ∗ xbf c (XB m c) ∗ ringS m c 0 1 ∗ Owe c (owedFrom c 1) ∗ laneFly m c (st t)
          ∗ owns (c : Thread nD τ) a2 q2 (xS m c) ∗ owns (c : Thread nD τ) a3 q3 (wqS m c) ∗ owns (c : Thread nD τ) a6 q6 (woS m c)) -∗ Kt (res3 (grid0.coords t) c)))
      ⊢ WP c (p3 t a2 h2 a3 h3 a6 h6 a7 h7) Kt := by
  have e1 := (cond1_iff t).2 ht
  have e2 := mt (cond2_iff t).1 (by omega)
  have e3 := (cond3_iff t).2 (by omega)
  have ho10 : k0_off10 (grid0.coords t) = ![(0 : Fin 7).val] := by rw [off10_at t (by omega), ht]; rfl
  have ho11 : k0_off11 (grid0.coords t) c = ![(back c (0 : Fin 7).val).val, 0, 0] := by rw [off11_at, ht]; rfl
  have ho12 : k0_off12 (grid0.coords t) c = ![(back c (0 : Fin 7).val).val, 0, 0] := by rw [off12_at, ht]; rfl
  have ho5 : k0_off5 c = ![c.val, 0, 0] := by rw [off5_at, back_zero]
  have ho6 : k0_off6 c = ![c.val, 0, 0] := by rw [off6_at, back_zero]
  have z3 : (![0, 0, 0] : Fin 3 → ℕ) = fun _ => 0 := by decide
  have z2 : (![0, 0] : Fin 2 → ℕ) = fun _ => 0 := by decide
  unfold p3
  rw [k0_part3_eq_skeleton]
  unfold k0_part3_skel
  rw [k0_part1_eq_skeleton]
  unfold k0_part1_skel
  simp only [dif_pos e1, dif_neg e2, dif_pos e3, Prog.lift, Prog.bind_op, Prog.bind_ret, Prog.pure_eq_ret, wp_deviceId, semSignalWord, semWaitWord]
  unfold startS laneIdle laneFly O₀
  iintro ⟨#HR, #HL, ⟨⟨Hat, Hcr, Htl, Htr⟩, Hpre, ⟨%X0, Hx⟩, Hg, Hg'⟩, HO, ⟨HK, HV⟩, H2, H3, H6, Hk⟩
  iapply (wp_kv_start m false c (par t.val) (st t) (kvSrc0_of c (st t) (off3_at t c) _) (kvBuf0_of (par t.val) (off2_at t) _) (kv_of false (par t.val) (off1_at t) _)) $$ HK
  iintro HK
  iapply (wp_kv_start m true c (par t.val) (st t) (kvSrc1_of c (st t) (off3_at t c) _) (kvBuf1_of (par t.val) (off2_at t) _) (kv_of true (par t.val) (off4_at t) _)) $$ HV
  iintro HV
  ihave Hg := (gWhole_split false c) $$ Hg
  ihave Hg' := (gWhole_split true c) $$ Hg'
  icases Hg with ⟨Hown, Hgive⟩
  icases Hg' with ⟨Hown', Hgive'⟩
  iapply (wp_signal_bar m K c _ (left c) true (dev1_at c _) (owedFrom c 0 + tallyAt (barCell (right c)) () 1) rfl) $$ [HO Htl Hgive Hgive']
  · isplitr; · iexact HR
    isplitl [HO]; · iexact HO
    isplitl [Htl]; · iexact Htl
    unfold barPay
    isplitl [Hgive]; · iexact Hgive
    iexact Hgive'
  iintro HO
  iapply (wp_signal_bar m K c _ (right c) false (dev2_at c _) (owedFrom c 0) rfl) $$ [HO Htr]
  · isplitr; · iexact HR
    isplitl [HO]; · iexact HO
    isplitl [Htr]; · iexact Htr
    unfold barPay
    iempintro
  iintro HO
  iapply (wp_wait_bar m K c rfl) $$ [HO Hcr Hat]
  · isplitr; · iexact HR
    isplitr; · iexact HL
    isplitl [Hcr]; · iexact Hcr
    isplitl [HO]; · iexact HO
    iexact Hat
  iintro ⟨HO, Hsem, Hf, Hf'⟩
  iapply (wp_load_full c a2 z3 _ (xS m c) q2) $$ H2
  iintro H2
  iapply (wp_load_full c (Memref.whole cc0_scratch0) z3 _ X0 fullShare) $$ Hx
  iintro Hx
  iapply (wp_store_full c (Memref.whole cc0_scratch0) z3 _ X0 (XB m c)) $$ Hx
  iintro Hx
  iapply (wp_load_full c a3 z2 _ (wqS m c) q3) $$ H3
  iintro H3
  unfold slotAny
  rw [back_zero]
  icases Hown with ⟨%f0, Hown⟩
  icases Hown' with ⟨%f1, Hown'⟩
  iapply (wp_fill_slot0 m c c ho5 _ f0) $$ Hown
  iintro Hown
  iapply (wp_load_full c a6 z2 _ (woS m c) q6) $$ H6
  iintro H6
  iapply (wp_fill_slot1 m c c ho6 _ f1) $$ Hown'
  iintro Hown'
  ihave Hh := (hops_init m c) $$ [Hpre Hf Hf']
  · isplitl [Hpre]; · iexact Hpre
    isplitl [Hf]; · iexact Hf
    iexact Hf'
  iapply (wp_ring_send m K c _ _ (0 : Fin 7) (dev3_at c _) (dev4_at c _) (gslot0_of _ ho11 _) (gslot0_of _ ho11 _) (gslot1_of _ ho12 _) (gslot1_of _ ho12 _)
      (ss_q_of _ ho10 _) (rs_q_of _ ho10 _) (ss_o_of _ ho10 _) (rs_o_of _ ho10 _)) $$ [Hh Hown Hown' HO]
  · isplitr; · iexact HR
    isplitr [HO]
    · unfold ringS slots
      rw [if_pos rfl]
      isplitl [Hh]; · iexact Hh
      rw [show back c (0 : Fin 7).val = c from back_zero c]
      isplitl [Hown]; · iexact Hown
      iexact Hown'
    · iexact HO
  iintro ⟨HS, HO⟩
  iapply (WP_ret c _ _)
  iapply Hk
  isplitl [Hsem]; · iexact Hsem
  isplitl [Hx]; · iexact Hx
  isplitl [HS]; · iexact HS
  isplitl [HO]; · iexact HO
  isplitl [HK HV]
  · isplitl [HK]; · iexact HK
    iexact HV
  isplitl [H2]; · iexact H2
  isplitl [H3]; · iexact H3
  iexact H6

end Parts

end Cert.RingProof

end
-- ==== Proof.Body4.lean ====
/-
# The body's later parts: the copies of a step and its product
-/
module

public import proofs.«01_k».proof.Proof.Body3
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One step's product as a value -/

section Value
variable (xr : Vec F S1x512x768 .bf16) (wq : Vec F S1x768x512 .bf16) (kk vv : Fin 8 → Vec F S1x512x1x64 .f32) (wo : Vec F S1x512x768 .bf16)

def ioV : IVec S512x512 32 := iota .tc S512x512 32 [1] iota_S512x512_d1_w32
def mskV : IVec S512x512 1 := k0_pay8 k0_pay6 ioV 64#32 k0_pay7
/-- What a step adds to the output block. -/
def partV : FVec F S512x768 .f32 :=
  k0_pay23 (k0_pay5 xr wq) mskV
    (k0_pay11 (k0_pay9 (k0_pay5 xr wq) k0_pay6 ioV 64#32 k0_pay7 (kk 0)) (k0_pay10 (k0_pay5 xr wq) k0_pay6 ioV 64#32 k0_pay7 (kk 0)) (vv 0))
    (k0_pay12 (k0_pay5 xr wq) mskV (kk 1) (vv 1))
    (k0_pay15 (k0_pay13 (k0_pay5 xr wq) mskV (kk 2)) (k0_pay14 (k0_pay5 xr wq) mskV (kk 2)) (vv 2))
    (k0_pay16 (k0_pay5 xr wq) mskV (kk 3) (vv 3))
    (k0_pay19 (k0_pay17 (k0_pay5 xr wq) mskV (kk 4)) (k0_pay18 (k0_pay5 xr wq) mskV (kk 4)) (vv 4))
    (k0_pay20 (k0_pay5 xr wq) mskV (kk 5) (vv 5))
    (k0_pay21 (k0_pay5 xr wq) mskV (kk 6)) (k0_pay22 (k0_pay5 xr wq) mskV (kk 6)) (vv 6) (kk 7) (vv 7) wo
/-- The output block after its first step, and after a later one. -/
def initV : Vec F S1x512x768 .f32 := shapeCast S1x512x768 (partV xr wq kk vv wo) shapeCasts_S512x768_S1x512x768
def nextV (X : Vec F S1x512x768 .f32) : Vec F S1x512x768 .f32 := k0_pay1 (partV xr wq kk vv wo) X
end Value

/-- What point `t` adds on device `c`, and the output block after it if `X` is what it held. -/
def partAt (c : Dev nD) (t : Fin cfg0.N) : FVec F S512x768 .f32 :=
  partV (xRow m c (t.val / 8) (by have : t.val < 16 := (st t).isLt; omega)) (wqB m (back c t.val)) (kRow m c (st t)) (vRow m c (st t)) (woB m (back c t.val))
def afterAt (c : Dev nD) (t : Fin cfg0.N) (X : Vec F S1x512x768 .f32) : Vec F S1x512x768 .f32 :=
  if t.val % 8 = 0 then shapeCast S1x512x768 (partAt m c t) shapeCasts_S512x768_S1x512x768 else k0_pay1 (partAt m c t) X

/-- The landed key and value blocks of step `n`. -/
def heads (c : Dev nD) (n : Fin 16) : sProp 𝕄 := iprop(kvHalf false c (par n.val) (KB m false c n) ∗ kvHalf true c (par n.val) (KB m true c n))
/-- The half of step `n`: its blocks on the way, if there is such a step. -/
def laneAt (c : Dev nD) (n : ℕ) : sProp 𝕄 := if h : n < 16 then laneFly m c ⟨n, h⟩ else laneIdle m c n

section Parts
variable (t : Fin cfg0.N)
variable (a2 : Memref sig .tc .vmem S2x512x768 .f32) (h2 : a2.IsWhole) (a3 : Memref sig .tc .vmem S768x512 .f32) (h3 : a3.IsWhole)
variable (a6 : Memref sig .tc .vmem S512x768 .f32) (h6 : a6.IsWhole) (a7 : Memref sig .tc .vmem S1x512x768 .f32) (h7 : a7.IsWhole)

/-- The next step's blocks start on their way, and this step's key block lands. -/
theorem part4 (c : Dev nD) (O : ℕ) (v1 v4 w : BitVec 32) (Kt : _ → sProp (MT nD τ sig Unit (Elt F) ℕ UU ℕ)) :
    iprop(levAts L lv ∗ kvFly m false c (par t.val) (st t) ∗ laneIdle m c (t.val + 1) ∗ Owe c (owedFrom c O)
        ∗ ((kvGot m false c (par t.val) (st t) ∗ laneAt m c (t.val + 1) ∗ Owe c (owedFrom c O)) -∗ Kt ⟨⟩))
      ⊢ WP c (k0_part4 (F := F) (grid0.coords t) a2 h2 a3 h3 (Memref.whole main_arg2) (Memref.isWhole_whole _) (Memref.whole main_arg3) (Memref.isWhole_whole _) a6 h6 a7 h7
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7 cc0_scratch8 cc0_scratch9 v1 c v4 w) Kt := by
  rw [k0_part4_eq_skeleton]
  unfold k0_part4_skel laneAt
  have hN : t.val < 16 := (st t).isLt
  by_cases h : t.val + 1 < 16
  · have e4 := (cond4_iff t).2 (by omega)
    rw [dif_pos h, k0_part2_eq_skeleton]
    unfold k0_part2_skel
    simp only [dif_pos e4, Prog.lift, Prog.bind_op, Prog.bind_ret, Prog.pure_eq_ret]
    unfold laneIdle laneFly
    iintro ⟨#HL, HK, ⟨HK', HV'⟩, HO, Hk⟩
    iapply (wp_kv_start m false c (par (t.val + 1)) ⟨t.val + 1, h⟩ (kvSrc0_of c ⟨t.val + 1, h⟩ (off15_at t c) _) (kvBuf0_of (par (t.val + 1)) (off14_at t) _) (kv_of false (par (t.val + 1)) (off13_at t) _)) $$ HK'
    iintro HK'
    iapply (wp_kv_start m true c (par (t.val + 1)) ⟨t.val + 1, h⟩ (kvSrc1_of c ⟨t.val + 1, h⟩ (off15_at t c) _) (kvBuf1_of (par (t.val + 1)) (off14_at t) _) (kv_of true (par (t.val + 1)) (off16_at t) _)) $$ HV'
    iintro HV'
    iapply (wp_kv_wait m false c (par t.val) (st t) O (kv_of false (par t.val) (off17_at t) _) (by rw [kvBuf0_of (par t.val) (off18_at t) _, kvBuf_credit])) $$ [HK HO]
    · isplitr; · iexact HL
      isplitl [HK]; · iexact HK
      iexact HO
    iintro ⟨HK, HO⟩
    iapply (WP_ret c _ _)
    iapply Hk
    isplitl [HK]; · iexact HK
    isplitl [HK' HV']
    · isplitl [HK']; · iexact HK'
      iexact HV'
    iexact HO
  · have e4 := mt (cond4_iff t).1 (by omega)
    rw [dif_neg h]
    simp only [dif_neg e4, Prog.lift, Prog.bind_op, Prog.bind_ret, Prog.pure_eq_ret]
    iintro ⟨#HL, HK, Hl, HO, Hk⟩
    iapply (wp_kv_wait m false c (par t.val) (st t) O (kv_of false (par t.val) (off17_at t) _) (by rw [kvBuf0_of (par t.val) (off18_at t) _, kvBuf_credit])) $$ [HK HO]
    · isplitr; · iexact HL
      isplitl [HK]; · iexact HK
      iexact HO
    iintro ⟨HK, HO⟩
    iapply (WP_ret c _ _)
    iapply Hk
    isplitl [HK]; · iexact HK
    isplitl [Hl]; · iexact Hl
    iexact HO

/-- This step's value block lands; the projected queries are formed. -/
theorem part5 (c : Dev nD) (O : ℕ) (hb : t.val / 8 < 2) (q : PosShare TreeShare) (v0 v12 : BitVec 32) (Kt : _ → sProp (MT nD τ sig Unit (Elt F) ℕ UU ℕ)) :
    iprop(levAts L lv ∗ kvFly m true c (par t.val) (st t) ∗ Owe c (owedFrom c O) ∗ xbf c (XB m c) ∗ slotPts false c (back c t.val) q (QG m)
        ∗ ((kvGot m true c (par t.val) (st t) ∗ Owe c (owedFrom c O) ∗ xbf c (XB m c) ∗ slotPts false c (back c t.val) q (QG m))
          -∗ Kt ⟨k0_pay5 (xRow m c (t.val / 8) hb) (wqB m (back c t.val)), k0_pay6, ioV, 64#32, k0_pay7⟩))
      ⊢ WP c (k0_part5 (F := F) (grid0.coords t) a2 h2 a3 h3 (Memref.whole main_arg2) (Memref.isWhole_whole _) (Memref.whole main_arg3) (Memref.isWhole_whole _) a6 h6 a7 h7
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7 cc0_scratch8 cc0_scratch9 v0 c v12) Kt := by
  rw [k0_part5_eq_skeleton]
  unfold k0_part5_skel ioV
  simp only [Prog.lift, Prog.bind_op, Prog.bind_ret, Prog.pure_eq_ret]
  iintro ⟨#HL, HV, HO, Hx, Hq, Hk⟩
  iapply (wp_kv_wait m true c (par t.val) (st t) O (kv_of true (par t.val) (off20_at t) _) (by rw [kvBuf1_of (par t.val) (off18_at t) _, kvBuf_credit])) $$ [HV HO]
  · isplitr; · iexact HL
    isplitl [HV]; · iexact HV
    iexact HO
  iintro ⟨HV, HO⟩
  iapply (wp_load_x m c (t.val / 8) hb (off21_at t) _) $$ Hx
  iintro Hx
  iapply (wp_load_slot0 m c (back c t.val) q (off22_at t c) _) $$ Hq
  iintro Hq
  iapply (WP_ret c _ _)
  iapply Hk
  isplitl [HV]; · iexact HV
  isplitl [HO]; · iexact HO
  isplitl [Hx]; · iexact Hx
  iexact Hq

theorem part6 (c : Dev nD) (v13 : BitVec 32) (v80 : FVec F S512x512 .bf16) (v105 v106 : IVec S512x512 32) (w : BitVec 32) (v107 : IVec S512x512 32) (Kt : _ → sProp (MT nD τ sig Unit (Elt F) ℕ UU ℕ)) :
    iprop(heads m c (st t) ∗ (heads m c (st t) -∗ Kt ⟨k0_pay8 v105 v106 w v107, k0_pay9 v80 v105 v106 w v107 (kRow m c (st t) 0), k0_pay10 v80 v105 v106 w v107 (kRow m c (st t) 0), (vRow m c (st t) 0)⟩))
      ⊢ WP c (k0_part6 (F := F) (grid0.coords t) a2 h2 a3 h3 (Memref.whole main_arg2) (Memref.isWhole_whole _) (Memref.whole main_arg3) (Memref.isWhole_whole _) a6 h6 a7 h7
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7 cc0_scratch8 cc0_scratch9 v13 v80 v105 v106 w v107) Kt := by
  rw [k0_part6_eq_skeleton]
  unfold k0_part6_skel heads
  simp only [Prog.lift, Prog.bind_op, Prog.bind_ret, Prog.pure_eq_ret]
  iintro ⟨⟨HK, HV⟩, Hk⟩
  iapply (wp_load_k m c (par (st t).val) (st t) 0 (off23_at t) _) $$ HK
  iintro HK
  iapply (wp_load_v m c (par (st t).val) (st t) 0 (off23_at t) _) $$ HV
  iintro HV
  iapply (WP_ret c _ _)
  iapply Hk
  isplitl [HK]; · iexact HK
  iexact HV

theorem part7 (c : Dev nD) (v13 : BitVec 32) (v80 : FVec F S512x512 .bf16) (v135 : IVec S512x512 1) (v145 : FVec F S512x512 .bf16) (v148 : FVec F S512x1 .f32) (v150 : Vec F S1x512x1x64 .f32) (Kt : _ → sProp (MT nD τ sig Unit (Elt F) ℕ UU ℕ)) :
    iprop(heads m c (st t) ∗ (heads m c (st t) -∗ Kt ⟨k0_pay11 v145 v148 v150, k0_pay12 v80 v135 (kRow m c (st t) 1) (vRow m c (st t) 1), k0_pay13 v80 v135 (kRow m c (st t) 2), k0_pay14 v80 v135 (kRow m c (st t) 2)⟩))
      ⊢ WP c (k0_part7 (F := F) (grid0.coords t) a2 h2 a3 h3 (Memref.whole main_arg2) (Memref.isWhole_whole _) (Memref.whole main_arg3) (Memref.isWhole_whole _) a6 h6 a7 h7
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7 cc0_scratch8 cc0_scratch9 v13 v80 v135 v145 v148 v150) Kt := by
  rw [k0_part7_eq_skeleton]
  unfold k0_part7_skel heads
  simp only [Prog.lift, Prog.bind_op, Prog.bind_ret, Prog.pure_eq_ret]
  iintro ⟨⟨HK, HV⟩, Hk⟩
  iapply (wp_load_k m c (par (st t).val) (st t) 1 (off24_at t) _) $$ HK
  iintro HK
  iapply (wp_load_v m c (par (st t).val) (st t) 1 (off24_at t) _) $$ HV
  iintro HV
  iapply (wp_load_k m c (par (st t).val) (st t) 2 (off25_at t) _) $$ HK
  iintro HK
  iapply (WP_ret c _ _)
  iapply Hk
  isplitl [HK]; · iexact HK
  iexact HV

theorem part8 (c : Dev nD) (v13 : BitVec 32) (v80 : FVec F S512x512 .bf16) (v135 : IVec S512x512 1) (v187 : FVec F S512x512 .bf16) (v190 : FVec F S512x1 .f32) (Kt : _ → sProp (MT nD τ sig Unit (Elt F) ℕ UU ℕ)) :
    iprop(heads m c (st t) ∗ (heads m c (st t) -∗ Kt ⟨k0_pay15 v187 v190 (vRow m c (st t) 2), k0_pay16 v80 v135 (kRow m c (st t) 3) (vRow m c (st t) 3), k0_pay17 v80 v135 (kRow m c (st t) 4), k0_pay18 v80 v135 (kRow m c (st t) 4)⟩))
      ⊢ WP c (k0_part8 (F := F) (grid0.coords t) a2 h2 a3 h3 (Memref.whole main_arg2) (Memref.isWhole_whole _) (Memref.whole main_arg3) (Memref.isWhole_whole _) a6 h6 a7 h7
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7 cc0_scratch8 cc0_scratch9 v13 v80 v135 v187 v190) Kt := by
  rw [k0_part8_eq_skeleton]
  unfold k0_part8_skel heads
  simp only [Prog.lift, Prog.bind_op, Prog.bind_ret, Prog.pure_eq_ret]
  iintro ⟨⟨HK, HV⟩, Hk⟩
  iapply (wp_load_v m c (par (st t).val) (st t) 2 (off25_at t) _) $$ HV
  iintro HV
  iapply (wp_load_k m c (par (st t).val) (st t) 3 (off26_at t) _) $$ HK
  iintro HK
  iapply (wp_load_v m c (par (st t).val) (st t) 3 (off26_at t) _) $$ HV
  iintro HV
  iapply (wp_load_k m c (par (st t).val) (st t) 4 (off27_at t) _) $$ HK
  iintro HK
  iapply (WP_ret c _ _)
  iapply Hk
  isplitl [HK]; · iexact HK
  iexact HV

theorem part9 (c : Dev nD) (v13 : BitVec 32) (v80 : FVec F S512x512 .bf16) (v135 : IVec S512x512 1) (v229 : FVec F S512x512 .bf16) (v232 : FVec F S512x1 .f32) (Kt : _ → sProp (MT nD τ sig Unit (Elt F) ℕ UU ℕ)) :
    iprop(heads m c (st t) ∗ (heads m c (st t) -∗ Kt ⟨k0_pay19 v229 v232 (vRow m c (st t) 4), k0_pay20 v80 v135 (kRow m c (st t) 5) (vRow m c (st t) 5), k0_pay21 v80 v135 (kRow m c (st t) 6), k0_pay22 v80 v135 (kRow m c (st t) 6)⟩))
      ⊢ WP c (k0_part9 (F := F) (grid0.coords t) a2 h2 a3 h3 (Memref.whole main_arg2) (Memref.isWhole_whole _) (Memref.whole main_arg3) (Memref.isWhole_whole _) a6 h6 a7 h7
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7 cc0_scratch8 cc0_scratch9 v13 v80 v135 v229 v232) Kt := by
  rw [k0_part9_eq_skeleton]
  unfold k0_part9_skel heads
  simp only [Prog.lift, Prog.bind_op, Prog.bind_ret, Prog.pure_eq_ret]
  iintro ⟨⟨HK, HV⟩, Hk⟩
  iapply (wp_load_v m c (par (st t).val) (st t) 4 (off27_at t) _) $$ HV
  iintro HV
  iapply (wp_load_k m c (par (st t).val) (st t) 5 (off28_at t) _) $$ HK
  iintro HK
  iapply (wp_load_v m c (par (st t).val) (st t) 5 (off28_at t) _) $$ HV
  iintro HV
  iapply (wp_load_k m c (par (st t).val) (st t) 6 (off29_at t) _) $$ HK
  iintro HK
  iapply (WP_ret c _ _)
  iapply Hk
  isplitl [HK]; · iexact HK
  iexact HV

/-- The step's product; the first step of a block stores it. -/
theorem part10 (c : Dev nD) (q : PosShare TreeShare) (X : Vec F S1x512x768 .f32) (arg1 : BitVec 32) (v12 v13 : BitVec 32) (v80 : FVec F S512x512 .bf16) (v135 : IVec S512x512 1) (v156 v177 v198 v219 v240 v261 : FVec F S512x64 .bf16) (v271 : FVec F S512x512 .bf16) (v273 : FVec F S512 .f32) (Kt : _ → sProp (MT nD τ sig Unit (Elt F) ℕ UU ℕ)) :
    iprop(heads m c (st t) ∗ slotPts true c (back c t.val) q (OG m) ∗ owns (c : Thread nD τ) a7 fullShare X
        ∗ ((heads m c (st t) ∗ slotPts true c (back c t.val) q (OG m)
            ∗ owns (c : Thread nD τ) a7 fullShare (if t.val % 8 = 0 then k0_pay24 v80 v135 v156 v177 v198 v219 v240 v261 v271 v273 (vRow m c (st t) 6) (kRow m c (st t) 7) (vRow m c (st t) 7) (woB m (back c t.val)) else X))
          -∗ Kt ⟨k0_pay23 v80 v135 v156 v177 v198 v219 v240 v261 v271 v273 (vRow m c (st t) 6) (kRow m c (st t) 7) (vRow m c (st t) 7) (woB m (back c t.val)), Scalar.cmpi .ne arg1 0#32⟩))
      ⊢ WP c (k0_part10 (F := F) (grid0.coords t) a2 h2 a3 h3 (Memref.whole main_arg2) (Memref.isWhole_whole _) (Memref.whole main_arg3) (Memref.isWhole_whole _) a6 h6 a7 h7
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7 cc0_scratch8 cc0_scratch9 arg1 c v12 v13 v80 v135 v156 v177 v198 v219 v240 v261 v271 v273) Kt := by
  have z3 : (![0, 0, 0] : Fin 3 → ℕ) = fun _ => 0 := by decide
  rw [k0_part10_eq_skeleton]
  unfold k0_part10_skel heads
  by_cases h : t.val % 8 = 0
  · have e5 := (cond5_iff t).2 h
    rw [if_pos h]
    simp only [dif_pos e5, Prog.lift, Prog.bind_op, Prog.bind_ret, Prog.pure_eq_ret]
    iintro ⟨⟨HK, HV⟩, Ho, HX, Hk⟩
    iapply (wp_load_v m c (par (st t).val) (st t) 6 (off29_at t) _) $$ HV
    iintro HV
    iapply (wp_load_k m c (par (st t).val) (st t) 7 (off30_at t) _) $$ HK
    iintro HK
    iapply (wp_load_v m c (par (st t).val) (st t) 7 (off30_at t) _) $$ HV
    iintro HV
    iapply (wp_load_slot1 m c (back c t.val) q (off31_at t c) _) $$ Ho
    iintro Ho
    iapply (wp_load_full c a7 z3 _ X fullShare) $$ HX
    iintro HX
    iapply (wp_store_full c a7 z3 _ X _) $$ HX
    iintro HX
    iapply (WP_ret c _ _)
    iapply Hk
    isplitl [HK HV]
    · isplitl [HK]; · iexact HK
      iexact HV
    isplitl [Ho]; · iexact Ho
    iexact HX
  · have e5 := mt (cond5_iff t).1 h
    rw [if_neg h]
    simp only [dif_neg e5, Prog.lift, Prog.bind_op, Prog.bind_ret, Prog.pure_eq_ret]
    iintro ⟨⟨HK, HV⟩, Ho, HX, Hk⟩
    iapply (wp_load_v m c (par (st t).val) (st t) 6 (off29_at t) _) $$ HV
    iintro HV
    iapply (wp_load_k m c (par (st t).val) (st t) 7 (off30_at t) _) $$ HK
    iintro HK
    iapply (wp_load_v m c (par (st t).val) (st t) 7 (off30_at t) _) $$ HV
    iintro HV
    iapply (wp_load_slot1 m c (back c t.val) q (off31_at t c) _) $$ Ho
    iintro Ho
    iapply (WP_ret c _ _)
    iapply Hk
    isplitl [HK HV]
    · isplitl [HK]; · iexact HK
      iexact HV
    isplitl [Ho]; · iexact Ho
    iexact HX

end Parts

end Cert.RingProof

end
-- ==== Proof.Body.lean ====
/-
# One point of the grid
-/
module

public import proofs.«01_k».proof.Proof.Body4
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## The state before each point -/

def headS (c : Dev nD) (n : ℕ) : sProp 𝕄 :=
  if n = 0 then iprop(startS (F := F) c ∗ laneIdle m c 0)
  else iprop(semVal (barCell c) 0 ∗ xbf c (XB m c) ∗ ringS m c (min (n - 1) 7) (min n 7) ∗ laneAt m c n)
/-- Device `c`'s state before point `n`. -/
def stateΦ (c : Dev nD) (n : ℕ) : sProp 𝕄 := iprop(∃ K, records m K ∗ levAts L lv ∗ headS m c n ∗ laneIdle m c (n + 1))

omit [FloatOps F] in
theorem laneIdle_two (c : Dev nD) (n : ℕ) : (laneIdle m c n : sProp 𝕄) = laneIdle m c (n + 2) := by
  have h : par n = par (n + 2) := Fin.ext (by show n % 2 = (n + 2) % 2; omega)
  unfold laneIdle
  rw [h]

section Body
variable (t : Fin cfg0.N)
variable (a2 : Memref sig .tc .vmem S2x512x768 .f32) (h2 : a2.IsWhole) (a3 : Memref sig .tc .vmem S768x512 .f32) (h3 : a3.IsWhole)
variable (a6 : Memref sig .tc .vmem S512x768 .f32) (h6 : a6.IsWhole) (a7 : Memref sig .tc .vmem S1x512x768 .f32) (h7 : a7.IsWhole)

/-- The three staged inputs. -/
def ins (c : Dev nD) (q2 q3 q6 : PosShare TreeShare) : sProp 𝕄 :=
  iprop(owns (c : Thread nD τ) a2 q2 (xS m c) ∗ owns (c : Thread nD τ) a3 q3 (wqS m c) ∗ owns (c : Thread nD τ) a6 q6 (woS m c))

theorem part3_all (c : Dev nD) (q2 q3 q6 : PosShare TreeShare) (Kt : _ → sProp (MT nD τ sig Unit (Elt F) ℕ UU ℕ)) :
    iprop(records m K ∗ levAts L lv ∗ headS m c t.val ∗ Owe c (owedAt c t.val) ∗ ins m a2 a3 a6 c q2 q3 q6
        ∗ ((semVal (barCell c) 0 ∗ xbf c (XB m c) ∗ ringS m c (min t.val 7) (min (t.val + 1) 7) ∗ Owe c (owedFrom c (min (t.val + 1) 7)) ∗ laneFly m c (st t)
          ∗ ins m a2 a3 a6 c q2 q3 q6) -∗ Kt (res3 (grid0.coords t) c)))
      ⊢ WP c (p3 t a2 h2 a3 h3 a6 h6 a7 h7) Kt := by
  unfold headS owedAt ins
  by_cases h : t.val = 0
  · rw [if_pos h, if_pos h, show min t.val 7 = 0 by omega, show min (t.val + 1) 7 = 1 by omega]
    iintro ⟨#HR, #HL, ⟨HS, Hl⟩, HO, Hi, Hk⟩
    iapply (part3_first m K t a2 h2 a3 h3 a6 h6 a7 h7 c h q2 q3 q6 Kt)
    isplitr; · iexact HR
    isplitr; · iexact HL
    isplitl [HS]; · iexact HS
    isplitl [HO]; · iexact HO
    isplitl [Hl]; · rw [h]; iexact Hl
    icases Hi with ⟨H2, H3, H6⟩
    isplitl [H2]; · iexact H2
    isplitl [H3]; · iexact H3
    isplitl [H6]; · iexact H6
    iexact Hk
  · have hl : laneAt m c t.val = laneFly m c (st t) := by unfold laneAt; rw [dif_pos (show t.val < 16 from (st t).isLt)]; rfl
    rw [if_neg h, if_neg h, hl]
    iintro ⟨#HR, #HL, ⟨Hb, Hx, HS, Hl⟩, HO, Hi, Hk⟩
    iapply (part3_next m K t a2 h2 a3 h3 a6 h6 a7 h7 c (by omega) Kt)
    isplitr; · iexact HR
    isplitr; · iexact HL
    isplitl [HS]; · iexact HS
    isplitl [HO]; · iexact HO
    iintro ⟨HS, HO⟩
    iapply Hk
    isplitl [Hb]; · iexact Hb
    isplitl [Hx]; · iexact Hx
    isplitl [HS]; · iexact HS
    isplitl [HO]; · iexact HO
    isplitl [Hl]; · iexact Hl
    iexact Hi

theorem back_mod (c : Dev nD) (n : ℕ) : back c (n % 8) = back c n := by exact Fin.ext (by simp only [back, Nat.mod_mod])

/-- One point of the grid on device `c`. -/
theorem body_step (c : Dev nD) (q2 q3 q6 : PosShare TreeShare) (X : Vec F S1x512x768 .f32) (Kt : _ → sProp (MT nD τ sig Unit (Elt F) ℕ UU ℕ)) :
    iprop(stateΦ m c t.val ∗ Owe c (owedAt c t.val) ∗ ins m a2 a3 a6 c q2 q3 q6 ∗ owns (c : Thread nD τ) a7 fullShare X
        ∗ ((stateΦ m c (t.val + 1) ∗ Owe c (owedAt c (t.val + 1)) ∗ ins m a2 a3 a6 c q2 q3 q6 ∗ owns (c : Thread nD τ) a7 fullShare (afterAt m c t X)) -∗ Kt ⟨⟩))
      ⊢ WP c (cc0_body (F := F) (grid0.coords t) a2 h2 a3 h3 (Memref.whole main_arg2) (Memref.isWhole_whole _) (Memref.whole main_arg3) (Memref.isWhole_whole _) a6 h6 a7 h7
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7 cc0_scratch8 cc0_scratch9) Kt := by
  have z3 : (![0, 0, 0] : Fin 3 → ℕ) = fun _ => 0 := by decide
  have hb : t.val / 8 < 2 := by have : t.val < 16 := (st t).isLt; omega
  have hlt : t.val < 16 := (st t).isLt
  rw [cc0_body_eq_skeleton]
  unfold cc0_body_skel WP
  rw [wp_bind]
  unfold stateΦ
  iintro ⟨⟨%K, #HR, #HL, HS, Hn⟩, HO, Hi, HX, Hk⟩
  iapply (part3_all m K t a2 h2 a3 h3 a6 h6 a7 h7 c q2 q3 q6)
  isplitr; · iexact HR
  isplitr; · iexact HL
  isplitl [HS]; · iexact HS
  isplitl [HO]; · iexact HO
  isplitl [Hi]; · iexact Hi
  iintro ⟨Hb, Hx, HS, HO, Hl, Hi⟩
  unfold laneFly
  icases Hl with ⟨HK, HV⟩
  try dsimp only
  rw [wp_bind]
  iapply (part4 m t a2 h2 a3 h3 a6 h6 a7 h7 c (min (t.val + 1) 7))
  isplitr; · iexact HL
  isplitl [HK]; · iexact HK
  isplitl [Hn]; · iexact Hn
  isplitl [HO]; · iexact HO
  iintro ⟨HK, Hn, HO⟩
  ihave HS := (ring_access m c (min t.val 7) (min (t.val + 1) 7) (t.val % 8) (by omega) (by omega) (by omega)) $$ HS
  icases HS with ⟨%q, Hs, Hsb⟩
  rw [back_mod]
  unfold slots
  icases Hs with ⟨Hq, Ho⟩
  try dsimp only
  rw [wp_bind]
  iapply (part5 m t a2 h2 a3 h3 a6 h6 a7 h7 c (min (t.val + 1) 7) hb q)
  isplitr; · iexact HL
  isplitl [HV]; · iexact HV
  isplitl [HO]; · iexact HO
  isplitl [Hx]; · iexact Hx
  isplitl [Hq]; · iexact Hq
  iintro ⟨HV, HO, Hx, Hq⟩
  unfold kvGot
  icases HK with ⟨HKs, HKh, HKa⟩
  icases HV with ⟨HVs, HVh, HVa⟩
  ihave Hh : heads m c (st t) $$ [HKh HVh]
  · unfold heads
    isplitl [HKh]; · iexact HKh
    iexact HVh
  try dsimp only
  rw [wp_bind]
  iapply (part6 m t a2 h2 a3 h3 a6 h6 a7 h7 c)
  isplitl [Hh]; · iexact Hh
  iintro Hh
  try dsimp only
  rw [wp_bind]
  iapply (part7 m t a2 h2 a3 h3 a6 h6 a7 h7 c)
  isplitl [Hh]; · iexact Hh
  iintro Hh
  try dsimp only
  rw [wp_bind]
  iapply (part8 m t a2 h2 a3 h3 a6 h6 a7 h7 c)
  isplitl [Hh]; · iexact Hh
  iintro Hh
  try dsimp only
  rw [wp_bind]
  iapply (part9 m t a2 h2 a3 h3 a6 h6 a7 h7 c)
  isplitl [Hh]; · iexact Hh
  iintro Hh
  try dsimp only
  rw [wp_bind]
  iapply (part10 m t a2 h2 a3 h3 a6 h6 a7 h7 c q X)
  isplitl [Hh]; · iexact Hh
  isplitl [Ho]; · iexact Ho
  isplitl [HX]; · iexact HX
  iintro ⟨Hh, Ho, HX⟩
  try dsimp only
  have h24 : ∀ a1 a2 a3 a4 a5 a6 a7 a8 a9 a10 a11 a12 a13 a14, k0_pay24 (F := F) a1 a2 a3 a4 a5 a6 a7 a8 a9 a10 a11 a12 a13 a14
      = shapeCast S1x512x768 (k0_pay23 (F := F) a1 a2 a3 a4 a5 a6 a7 a8 a9 a10 a11 a12 a13 a14) shapeCasts_S512x768_S1x512x768 := fun _ _ _ _ _ _ _ _ _ _ _ _ _ _ => rfl
  ihave Hk : (owns (c : Thread nD τ) a7 fullShare (afterAt m c t X) -∗ Kt ⟨⟩) $$ [Hk Hb Hi Hn Hsb HO Hx Hq HKs HKa HVs HVa Hh Ho]
  · iintro HX
    iapply Hk
    unfold heads headS owedAt
    icases Hh with ⟨HKh, HVh⟩
    ihave HS := Hsb $$ [Hq Ho]
    · isplitl [Hq]; · iexact Hq
      iexact Ho
    isplitr [HO Hi HX]
    · iexists K
      isplitr; · iexact HR
      isplitr; · iexact HL
      rw [if_neg (by omega), show t.val + 1 - 1 = t.val by omega]
      isplitl [Hb Hx HS Hn]
      · isplitl [Hb]; · iexact Hb
        isplitl [Hx]; · iexact Hx
        isplitl [HS]; · iexact HS
        iexact Hn
      rw [show t.val + 1 + 1 = t.val + 2 by omega, ← laneIdle_two]
      unfold laneIdle
      isplitl [HKs HKh HKa]
      · iapply (kvGot_idle m false c (par t.val) (st t))
        unfold kvGot
        isplitl [HKs]; · iexact HKs
        isplitl [HKh]; · iexact HKh
        iexact HKa
      · iapply (kvGot_idle m true c (par t.val) (st t))
        unfold kvGot
        isplitl [HVs]; · iexact HVs
        isplitl [HVh]; · iexact HVh
        iexact HVa
    rw [if_neg (by omega)]
    isplitl [HO]; · iexact HO
    isplitl [Hi]; · iexact Hi
    iexact HX
  simp only [h24]
  unfold afterAt partAt partV mskV
  by_cases h : t.val % 8 = 0
  · rw [dif_neg (fun e => (cond6_iff t).1 e h)]
    simp only [if_pos h]
    iapply (WP_ret c _ _)
    iapply Hk
    iexact HX
  · simp only [dif_pos ((cond6_iff t).2 h), if_neg h, Prog.lift, Prog.bind_op, Prog.bind_ret, Prog.pure_eq_ret]
    iapply (wp_load_full c a7 z3 _ X fullShare) $$ HX
    iintro HX
    iapply (wp_load_full c a7 z3 _ X fullShare) $$ HX
    iintro HX
    iapply (wp_store_full c a7 z3 _ X _) $$ HX
    iintro HX
    iapply (WP_ret c _ _)
    iapply Hk
    iexact HX

end Body

end Cert.RingProof

end
-- ==== Proof.Ghost.lean ====
/-
# The protocol at launch
-/
module

public import proofs.«01_k».proof.Proof.Body
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Sums over the ring cells -/

omit [FloatOps F] in
theorem bigSep_hop (Φ : Bool × Bool × Fin 7 → sProp 𝕄) : bigSep Finset.univ Φ
    = bigSep Finset.univ fun h : Fin 7 => iprop((Φ (false, false, h) ∗ Φ (false, true, h)) ∗ (Φ (true, false, h) ∗ Φ (true, true, h))) := by
  have hb : ∀ Ψ : Bool → sProp 𝕄, bigSep Finset.univ Ψ = iprop(Ψ false ∗ Ψ true) := fun Ψ =>
    bigSep_univ_eq_bigSepL [false, true] (by decide) (by decide) Ψ
  rw [bigSep_sep', bigSep_sep', bigSep_sep', bigSep_univ_prod, hb, bigSep_univ_prod, bigSep_univ_prod, hb, hb]
omit [FloatOps F] in
theorem bigSep_CK (Φ : CK → sProp 𝕄) : bigSep Finset.univ Φ = iprop(Φ (.inl ()) ∗ bigSep Finset.univ fun x => Φ (.inr x)) := by
  rw [bigSep_univ_sum, bigSep_univ_eq_bigSepL [()] (by decide) (by decide)]; rfl

def ringE : Dev nD ≃ Dev nD := ⟨right, left, left_right, right_left⟩

/-! ## The tokens each device starts with, and what it needs -/

abbrev TK : Type := Bool ⊕ (Bool × Bool × Fin 7)
def tok : Dev nD × TK → GSem nD τ sig × ℕ × Bool
  | (c, .inl d) => (barCell c, 0, d)
  | (c, .inr x) => (kcell (c, .inr x), 0, false)
theorem tok_injective : Function.Injective tok := by
  rintro ⟨c, a⟩ ⟨c', a'⟩ e
  rcases a with d | x <;> rcases a' with d' | x'
  · have h1 := congrArg Prod.fst (kcell_injective (a₁ := (c, .inl ())) (a₂ := (c', .inl ())) (congrArg Prod.fst e))
    have h2 : d = d' := congrArg (fun p : GSem nD τ sig × ℕ × Bool => p.2.2) e
    have h1' : c = c' := h1
    rw [h1', h2]
  · have h1 := congrArg Prod.snd (kcell_injective (a₁ := (c, .inl ())) (a₂ := (c', .inr x')) (congrArg Prod.fst e)); cases h1
  · have h1 := congrArg Prod.snd (kcell_injective (a₁ := (c, .inr x)) (a₂ := (c', .inl ())) (congrArg Prod.fst e)); cases h1
  · have h1 := kcell_injective (a₁ := (c, .inr x)) (a₂ := (c', .inr x')) (congrArg Prod.fst e)
    have h2 : c = c' := congrArg Prod.fst h1
    have h3 : (Sum.inr x : CK) = .inr x' := congrArg Prod.snd h1
    rw [h2, Sum.inr.inj h3]

def ringCells : Finset (GSem nD τ sig) := Finset.univ.map ⟨kcell, kcell_injective⟩
def ringToks : Finset (GSem nD τ sig × ℕ × Bool) := Finset.univ.map ⟨tok, tok_injective⟩
def u₀ : UU := (initOf (Pipeline.cells cfgs cellOf_inj) (Pipeline.launchToks cfgs cellOf_inj), (initOf ringCells ringToks, 1))

def toks (c : Dev nD) : sProp 𝕄 := iprop((dutyTok ER (barCell c) 0 false ∗ dutyTok ER (barCell c) 0 true)
  ∗ bigSep Finset.univ fun h : Fin 7 => iprop((dutyTok ER (hopCell false false h c) 0 false ∗ dutyTok ER (hopCell false true h c) 0 false)
    ∗ (dutyTok ER (hopCell true false h c) 0 false ∗ dutyTok ER (hopCell true true h c) 0 false)))
def payToks (c : Dev nD) : sProp 𝕄 := iprop((dutyTok ER (barCell (right c)) 0 false ∗ dutyTok ER (barCell (left c)) 0 true)
  ∗ bigSep Finset.univ fun h : Fin 7 => iprop((dutyTok ER (hopCell false false h c) 0 false ∗ dutyTok ER (hopCell false true h (right c)) 0 false)
    ∗ (dutyTok ER (hopCell true false h c) 0 false ∗ dutyTok ER (hopCell true true h (right c)) 0 false)))

omit [FloatOps F] in
theorem toks_around : (bigSep Finset.univ fun c : Dev nD => (toks c : sProp 𝕄)) ⊢ bigSep Finset.univ fun c : Dev nD => payToks c := by
  unfold toks payToks
  simp only [bigSep_sep']
  rw [bigSep_univ_equiv ringE (fun c : Dev nD => (dutyTok ER (barCell c) 0 false : sProp 𝕄)),
    bigSep_univ_equiv ringE.symm (fun c : Dev nD => (dutyTok ER (barCell c) 0 true : sProp 𝕄)),
    bigSep_univ_equiv ringE (fun c : Dev nD => (bigSep Finset.univ fun h : Fin 7 => dutyTok ER (hopCell false true h c) 0 false : sProp 𝕄)),
    bigSep_univ_equiv ringE (fun c : Dev nD => (bigSep Finset.univ fun h : Fin 7 => dutyTok ER (hopCell true true h c) 0 false : sProp 𝕄))]
  exact Entails.of_eq rfl

/-- The launch's share of the protocol, and what a device keeps of it. -/
def G (c : Dev nD) : sProp 𝕄 :=
  iprop((bigSep Finset.univ fun k : CK => roundState ER (ringRd m) (kcell (c, k)) 0)
    ∗ (bigSep Finset.univ fun k : CK => iprop(atPos ER (kcell (c, k)) 0 ∅ 0 ∗ reached ER (kcell (c, k)) 0)) ∗ toks c)
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_hop, bigSep_univ_eq_bigSepL [false, true] (by decide) (by decide)]
    rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The launch's own semaphores -/

/-- The launch's scoped semaphores: those of the hops, then those of the two input lanes. -/
def osem : (Bool × Bool × Fin 7) ⊕ (Bool × Fin 2) → SemLoc sig
  | .inl (o, r, h) => .dma (ringSem o r h)
  | .inr (a, p) => .dma (kvSem a p)
theorem ownSemFacts : Pipeline.OwnSemFacts cfg0.spec osem := by decide

/-- The input lanes' semaphores at zero. -/
def kvSems (c : Dev nD) : sProp 𝕄 := bigSep Finset.univ fun x : Bool × Fin 2 => semVal ((c : Thread nD τ), .dma (kvSem x.1 x.2)) 0

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun x : Bool × Bool × Fin 7 => semVal (kcell (c, .inr x)) 0) ∗ kvSems c) := by
  unfold Pipeline.ownSems0 kvSems
  rw [bigSep_univ_sum]; rfl
omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ (toks c ∗ kvSems c)) := by
  unfold G
  rw [ownSems0_eq, unscopedSems0_eq]
  iintro ⟨⟨Hos, Hkv⟩, Hus, Hst, Hat, Htok⟩
  ihave Hv := (show iprop((semVal (barCell c) 0) ∗ bigSep Finset.univ fun x : Bool × Bool × Fin 7 => semVal (kcell (c, .inr x)) 0)
      ⊢ (bigSep Finset.univ fun k : CK => semVal (kcell (c, k)) 0 : sProp 𝕄) from Entails.of_eq (bigSep_CK (F := F) (fun k => semVal (kcell (c, k)) 0)).symm) $$ [Hos Hus]
  · isplitl [Hus] <;> iassumption
  imod (show iprop((bigSep Finset.univ fun k : CK => semVal (kcell (c, k)) 0) ∗ bigSep Finset.univ fun k : CK => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

def linear (c : Dev nD) : sProp 𝕄 := iprop((bigSep Finset.univ fun k : CK => atPos ER (kcell (c, k)) 0 ∅ 0) ∗ payToks c ∗ kvSems c)
def G' (c : Dev nD) : sProp 𝕄 := iprop(∃ K, records m K ∗ linear c)

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ (toks c ∗ kvSems c)) : sProp 𝕄)
      ⊢ bigSep Finset.univ (G' m) := by
  rw [bigSep_sep', bigSep_sep', ← bigSep_univ_prod (fun ck : Dev nD × CK => iprop(∃ κ : ℕ, cellInv ER (ringRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', bigSep_sep', ← bigSep_univ_prod (fun ck : Dev nD × CK => (reached ER (kcell ck) 0 : sProp 𝕄))]
  iintro ⟨HI, ⟨Hat, #HR⟩, Htok, Hkv⟩
  ihave HK := (BI.bigSep_exists_pi Finset.univ (fun (ck : Dev nD × CK) (κ : ℕ) => (cellInv ER (ringRd m) κ (kcell ck) : sProp 𝕄))) $$ HI
  icases HK with ⟨%K, #HI⟩
  ihave Htk := (toks_around (F := F)) $$ Htok
  iapply (BI.bigSep_with_persistent (R := records m K) (Φ := linear) (Ψ := G' m) fun c _ => show iprop(records m K ∗ linear c) ⊢ G' m c from by
    unfold G'
    iintro H
    iexists K
    iexact H)
  isplitr
  · unfold records; isplitl; · iexact HI
    iexact HR
  · unfold linear
    rw [bigSep_sep', bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the neighbours owe, as credit -/

theorem right_eq_iff {d c : Dev nD} : right d = c ↔ d = left c := ⟨fun h => by rw [← h, left_right], fun h => by rw [h, right_left]⟩
theorem left_eq_iff {d c : Dev nD} : left d = c ↔ d = right c := ⟨fun h => by rw [← h, right_left], fun h => by rw [h, left_right]⟩
theorem kcell_iff {a b : Dev nD} {j k : CK} : kcell (a, j) = kcell (b, k) ↔ a = b ∧ j = k :=
  ⟨fun h => by have := kcell_injective h; exact ⟨congrArg Prod.fst this, congrArg Prod.snd this⟩, fun h => by rw [h.1, h.2]⟩

theorem owedHop_at (d c : Dev nD) (o : Bool) (h h' : Fin 7) : owedHop d h' (hopCell o true h c) () = if h' = h ∧ d = left c then hopN o else 0 := by
  unfold owedHop
  rw [Pi.add_apply, Finsupp.add_apply, tallyAt_apply, tallyAt_apply]
  have e : ∀ o' : Bool, ((hopCell o true h c = hopCell o' true h' (right d)) ∧ () = ()) ↔ (o = o' ∧ h' = h ∧ d = left c) := fun o' => by
    rw [show (hopCell o true h c = hopCell o' true h' (right d)) ↔ _ from kcell_iff (a := c) (b := right d) (j := .inr (o, true, h)) (k := .inr (o', true, h'))]
    rw [eq_comm (a := c), right_eq_iff]
    simp only [Sum.inr.injEq, Prod.mk.injEq, true_and, and_true]
    tauto
  rw [if_congr (e true) rfl rfl, if_congr (e false) rfl rfl]
  cases o <;> by_cases hh : h' = h ∧ d = left c <;> simp [hh]
theorem owedFrom_at (d c : Dev nD) (o : Bool) (h : Fin 7) : owedFrom d 0 (hopCell o true h c) () = if d = left c then hopN o else 0 := by
  unfold owedFrom
  rw [Finset.filter_true_of_mem (fun _ _ => Nat.zero_le _), Finset.sum_apply, Finsupp.finset_sum_apply, Finset.sum_congr rfl fun h' _ => owedHop_at d c o h h']
  by_cases hd : d = left c
  · simp only [hd, and_true, if_true]
    rw [Finset.sum_ite_eq' Finset.univ h fun _ => hopN o, if_pos (Finset.mem_univ _)]
  · simp only [hd, and_false, if_false, Finset.sum_const_zero]
theorem owed_hop (d c : Dev nD) (o : Bool) (h : Fin 7) : O₀ d (hopCell o true h c) () = if d = left c then hopN o else 0 := by
  have hne : ∀ e : Dev nD, hopCell o true h c ≠ barCell e := fun e he => by cases congrArg Prod.snd (kcell_injective (a₁ := (c, .inr (o, true, h))) (a₂ := (e, .inl ())) he)
  unfold O₀
  rw [Pi.add_apply, Finsupp.add_apply, Pi.add_apply, Finsupp.add_apply, tallyAt_ne_cell (hne _), tallyAt_ne_cell (hne _), Finsupp.zero_apply, Nat.add_zero, Nat.add_zero,
    owedFrom_at]
theorem owed_bar (d c : Dev nD) : O₀ d (barCell c) () = (if d = left c then 1 else 0) + (if d = right c then 1 else 0) := by
  have h0 : owedFrom d 0 (barCell c) () = 0 := by
    by_contra hp
    obtain ⟨o, h, -, e⟩ := owedFrom_pos (Nat.pos_of_ne_zero hp)
    cases congrArg Prod.snd (kcell_injective (a₁ := (c, .inl ())) (a₂ := (right d, .inr (o, true, h))) e)
  have e : ∀ x : Dev nD, ((barCell c = barCell x) ∧ () = ()) ↔ x = c := fun x => by
    rw [show (barCell c = barCell x) ↔ _ from kcell_iff (a := c) (b := x) (j := .inl ()) (k := .inl ())]
    simp only [and_true, eq_comm]
  unfold O₀
  rw [Pi.add_apply, Finsupp.add_apply, Pi.add_apply, Finsupp.add_apply, h0, tallyAt_apply, tallyAt_apply, Nat.zero_add]
  rw [if_congr (e _) rfl rfl, if_congr (e _) rfl rfl, if_congr right_eq_iff rfl rfl, if_congr left_eq_iff rfl rfl]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (left c) fun _ => 1, Finset.sum_ite_eq' Finset.univ (right c) fun _ => 1, if_pos (Finset.mem_univ _), if_pos (Finset.mem_univ _)]
theorem launch_hop (c : Dev nD) (o : Bool) (h : Fin 7) :
    tallyOn (hopCell o true h c) (launchCredit (Pipeline.owing O₀) 0 (hopCell o true h c)) = (tallyAt (hopCell o true h c) () (hopN o) : CellTallies nD τ sig Unit) := by
  unfold tallyAt; refine congrArg _ (Finsupp.ext fun u => ?_); cases u
  rw [Pipeline.launchCredit_owing, Finsupp.single_eq_same, Finset.sum_congr rfl fun d _ => owed_hop d c o h, Finset.sum_ite_eq' Finset.univ (left c) fun _ => hopN o,
    if_pos (Finset.mem_univ _)]

omit [FloatOps F] in
theorem creds (c : Dev nD) : (Pipeline.launchCred O₀ c : sProp 𝕄) ⊢ iprop(cred (tallyAt (barCell c) () 2)
    ∗ bigSep Finset.univ fun h : Fin 7 => iprop(cred (tallyAt (hopCell false true h c) () (hopN false)) ∗ cred (tallyAt (hopCell true true h c) () (hopN true)))) := by
  unfold Pipeline.launchCred
  refine (BI.bigSep_subset (Finset.subset_univ (Finset.univ.map ⟨semOf, semOf_inj⟩))).trans ?_
  rw [bigSep_map, bigSep_CK, bigSep_hop]
  simp only [Function.Embedding.coeFn_mk]
  refine BIClass.sep_mono (Entails.of_eq (congrArg cred (launch_bar c))) (bigSep_mono fun h _ => ?_)
  rw [← launch_hop, ← launch_hop]
  have hh : ∀ P Q R S : sProp 𝕄, iprop((P ∗ Q) ∗ (R ∗ S)) ⊢ iprop(Q ∗ S) := fun P Q R S => by
    iintro ⟨⟨-, H1⟩, -, H2⟩
    isplitl [H1]; · iexact H1
    iexact H2
  exact hh _ _ _ _

end Cert.RingProof

end
-- ==== Proof.Run.lean ====
/-
# The run of the whole program
-/
module

public import proofs.«01_k».proof.Proof.Ghost
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The staged blocks and the output block, point by point -/

/-- The output block after point `n`. -/
def acc (c : Dev nD) : ℕ → Vec F S1x512x768 .f32
  | 0 => afterAt m c pt0 (shapeCast S1x512x768 (partAt m c pt0) shapeCasts_S512x768_S1x512x768)
  | n + 1 => if h : n + 1 < 16 then afterAt m c ⟨n + 1, by rw [N16]; exact h⟩ (acc c n) else acc c n

theorem acc_first (c : Dev nD) (t : Fin cfg0.N) (h : t.val % 8 = 0) (X) : afterAt m c t X = acc m c t.val := by
  obtain ⟨n, hn⟩ := t
  have hn' : n < 16 := by rw [N16] at hn; exact hn
  have e : ∀ Y, afterAt m c ⟨n, hn⟩ X = afterAt m c ⟨n, hn⟩ Y := fun Y => by unfold afterAt; rw [if_pos h, if_pos h]
  match n, hn, hn', h, e with
  | 0, hn, _, _, e => exact e _
  | n + 1, hn, hn', _, e => unfold acc; rw [dif_pos hn']; exact e _
theorem acc_next (c : Dev nD) (t : Fin cfg0.N) (h : t.val % 8 ≠ 0) : afterAt m c t (acc m c (t.val - 1)) = acc m c t.val := by
  obtain ⟨n, hn⟩ := t
  have hn' : n < 16 := by rw [N16] at hn; exact hn
  match n, hn, hn', h with
  | n + 1, hn, hn', _ => show afterAt m c ⟨n + 1, hn⟩ (acc m c n) = acc m c (n + 1); rw [acc, dif_pos hn']

/-- The proof data of the launch. -/
def dats (_ : Fin 1) (c : Dev nD) : Dat τ (Elt F) Unit ℕ UU ℕ cfg0 c where
  A w := m ((cfg0.win w).arr.view.loc (c : Thread nD τ))
  after w t := match w with
    | ⟨0, _⟩ => blkAt m c 0 t
    | ⟨1, _⟩ => blkAt m c 1 t
    | ⟨2, _⟩ => blkAt m c 2 t
    | ⟨3, _⟩ => acc m c t.val
  Φ t := stateΦ m c t.val
  q _ := fullShare
  owed t := owedAt c t.val

theorem share_eq (c : Dev nD) (w : Fin cfg0.W) : (dats m 0 c).share w = fullShare := by unfold Dat.share; split <;> rfl

theorem idx_0 : ∀ t : Fin cfg0.N, (cfg0.win 0).index t = (cfg0.win 0).index pt0 := by decide +kernel
theorem idx_1 : ∀ t : Fin cfg0.N, (cfg0.win 1).index t = (cfg0.win 1).index pt0 := by decide +kernel
theorem idx_2 : ∀ t : Fin cfg0.N, (cfg0.win 2).index t = (cfg0.win 2).index pt0 := by decide +kernel

theorem idle_3 : ∀ t : Fin cfg0.N, cfg0.idle 3 (cfg0.grid.coords t) = false := by decide +kernel

theorem before_0 (c : Dev nD) (t : Fin cfg0.N) (d) : (dats m 0 c).before 0 t d = xS m c :=
  ((dats m 0 c).before_in_eq_fetched 0 rfl (fun _ => rfl) (fun _ _ _ => rfl) (fun _ => rfl) t d).trans
    ((dats m 0 c).fetched_congr 0 (t := t) (t' := pt0) (idx_0 t) rfl d)
theorem before_1 (c : Dev nD) (t : Fin cfg0.N) (d) : (dats m 0 c).before 1 t d = wqS m c :=
  ((dats m 0 c).before_in_eq_fetched 1 rfl (fun _ => rfl) (fun _ _ _ => rfl) (fun _ => rfl) t d).trans
    ((dats m 0 c).fetched_congr 1 (t := t) (t' := pt0) (idx_1 t) rfl d)
theorem before_2 (c : Dev nD) (t : Fin cfg0.N) (d) : (dats m 0 c).before 2 t d = woS m c :=
  ((dats m 0 c).before_in_eq_fetched 2 rfl (fun _ => rfl) (fun _ _ _ => rfl) (fun _ => rfl) t d).trans
    ((dats m 0 c).fetched_congr 2 (t := t) (t' := pt0) (idx_2 t) rfl d)
theorem blk_0 (c : Dev nD) (t : Fin cfg0.N) : blkAt m c 0 t = xS m c :=
  (dats m 0 c).fetched_congr 0 (t := t) (t' := pt0) (idx_0 t) rfl (blkAt m c 0 t)
theorem blk_1 (c : Dev nD) (t : Fin cfg0.N) : blkAt m c 1 t = wqS m c :=
  (dats m 0 c).fetched_congr 1 (t := t) (t' := pt0) (idx_1 t) rfl (blkAt m c 1 t)
theorem blk_2 (c : Dev nD) (t : Fin cfg0.N) : blkAt m c 2 t = woS m c :=
  (dats m 0 c).fetched_congr 2 (t := t) (t' := pt0) (idx_2 t) rfl (blkAt m c 2 t)
theorem before_3 (c : Dev nD) (t : Fin cfg0.N) (ht : t.val % 8 ≠ 0) (d) : (dats m 0 c).before 3 t d = acc m c (t.val - 1) := by
  rw [(dats m 0 c).before_of_pos 3 t (by omega) rfl d, if_neg]
  · unfold Dat.left
    rw [idle_3 ⟨t.val - 1, _⟩]
    rfl
  · rw [flush0_3]; show ¬ (t.val - 1) % 8 = 7; omega

theorem body_obligation (c : Dev nD) : BodyObligation (dats (F := F) m 0 c) (defs₀ (F := F)) 𝒱₀ () Set.univ := fun t => by
  rw [bigSep_W0, bigSep_W0]
  rw [idle_3 t]
  show iprop(stateΦ m c t.val ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d)))
    ⊢ WP c (bodyAt0 t) (fun _ => iprop(stateΦ m c (t.val + 1) ∗ (dats m 0 c).owesAt () t.succ
      ∗ owns (c : Thread nD τ) (st0_0 t) fullShare (blkAt m c 0 t) ∗ owns (c : Thread nD τ) (st0_1 t) fullShare (blkAt m c 1 t)
      ∗ owns (c : Thread nD τ) (st0_2 t) fullShare (blkAt m c 2 t) ∗ owns (c : Thread nD τ) (st0_3 t) fullShare (acc m c t.val)))
  simp only [before_0, before_1, before_2]
  iintro ⟨HΦ, HO, ⟨%d0, H0⟩, ⟨%d1, H1⟩, ⟨%d2, H2⟩, ⟨%d3, H3⟩⟩
  unfold Dat.owesAt Pipeline.owesWithin
  icases HO with ⟨%W, -, HO⟩
  have hacc : ∃ X, (dats m 0 c).before 3 t d3 = X ∧ afterAt m c t X = acc m c t.val := by
    by_cases h : t.val % 8 = 0
    · exact ⟨_, rfl, acc_first m c t h _⟩
    · exact ⟨_, before_3 m c t h d3, acc_next m c t h⟩
  obtain ⟨X, hX, hX'⟩ := hacc
  rw [hX, ← hX']
  iapply (body_step m t (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) c fullShare fullShare fullShare X)
  isplitl [HΦ]; · iexact HΦ
  isplitl [HO]
  · unfold Owe; iexists W; iexact HO
  unfold ins
  isplitl [H0 H1 H2]
  · isplitl [H0]; · iexact H0
    isplitl [H1]; · iexact H1
    iexact H2
  isplitl [H3]; · iexact H3
  iintro ⟨HΦ, HO, ⟨H0, H1, H2⟩, H3⟩
  unfold Owe
  icases HO with ⟨%W', HO⟩
  isplitl [HΦ]; · iexact HΦ
  isplitl [HO]
  · iexists W'
    isplitr
    · ipureintro; exact fun _ _ => Or.inl trivial
    iexact HO
  ihave H0 := (Entails.of_eq (congrArg (owns (c : Thread nD τ) (st0_0 t) fullShare) (blk_0 m c t).symm)) $$ H0
  ihave H1 := (Entails.of_eq (congrArg (owns (c : Thread nD τ) (st0_1 t) fullShare) (blk_1 m c t).symm)) $$ H1
  ihave H2 := (Entails.of_eq (congrArg (owns (c : Thread nD τ) (st0_2 t) fullShare) (blk_2 m c t).symm)) $$ H2
  isplitl [H0]; · iexact H0
  isplitl [H1]; · iexact H1
  isplitl [H2]; · iexact H2
  iexact H3

end Cert.RingProof

end
-- ==== Proof.Entry.lean ====
/-
# Into the first point and out of the last
-/
module

public import proofs.«01_k».proof.Proof.Run
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The key and value buffers, whole and in halves -/

def kvWhole : (a : Bool) → (c : Dev nD) → sProp 𝕄
  | false, c => iprop(∃ f, (kvBuf false 0).view.loc (c : Thread nD τ) ↦[Finset.univ]{fullShare} f)
  | true, c => iprop(∃ f, (kvBuf true 0).view.loc (c : Thread nD τ) ↦[Finset.univ]{fullShare} f)

def halfS (p : Fin 2) : Finset S2x512x8x64.Idx := (Rect.unit (s := S2x512x8x64) ![p.val, 0, 0, 0] S1x512x8x64.size (half_inb p)).set
theorem halves_cover : halfS 0 ∪ halfS 1 = Finset.univ := by
  have h : ∀ i : S2x512x8x64.Idx, i 0 = (0 : Fin 2) ∨ i 0 = (1 : Fin 2) := fun i => by
    have : ∀ p : Fin 2, p = 0 ∨ p = 1 := by decide
    exact this (i 0)
  exact Finset.eq_univ_iff_forall.2 fun i => Finset.mem_union.2 ((h i).imp (mem_half 0 i).2 (mem_half 1 i).2)
theorem halves_disj : Disjoint (halfS 0) (halfS 1) :=
  Finset.disjoint_left.2 fun i h0 h1 => absurd (((mem_half 0 i).1 h0).symm.trans ((mem_half 1 i).1 h1)) (by intro h; exact absurd (congrArg Fin.val h) (by decide))

omit [FloatOps F] in
theorem kvHalf_0 (c : Dev nD) (p : Fin 2) (f) : (kvHalf false c p f : sProp 𝕄) = ((kvBuf false 0).view.loc (c : Thread nD τ) ↦[halfS p]{fullShare} f) := by
  show ((kvBuf false p).view.loc (c : Thread nD τ) ↦[(kvBuf false p).view.set]{fullShare} f) = _
  rw [kvBuf0_set]; rfl
omit [FloatOps F] in
theorem kvHalf_1 (c : Dev nD) (p : Fin 2) (f) : (kvHalf true c p f : sProp 𝕄) = ((kvBuf true 0).view.loc (c : Thread nD τ) ↦[halfS p]{fullShare} f) := by
  show ((kvBuf true p).view.loc (c : Thread nD τ) ↦[(kvBuf true p).view.set]{fullShare} f) = _
  rw [kvBuf1_set]; rfl

omit [FloatOps F] in
theorem kvWhole_split (a : Bool) (c : Dev nD) : (kvWhole a c : sProp 𝕄) ⊢ iprop((∃ f, kvHalf a c 0 f) ∗ (∃ f, kvHalf a c 1 f)) := by
  have key : ∀ f, iprop(kvHalf a c 0 f ∗ kvHalf a c 1 f) ⊢ (iprop((∃ f, kvHalf a c 0 f) ∗ (∃ f, kvHalf a c 1 f)) : sProp 𝕄) := fun f => by
    iintro ⟨H0, H1⟩
    isplitl [H0]; · iexists f; iexact H0
    iexists f; iexact H1
  cases a
  · refine exists_elim fun f => ?_
    refine (Entails.of_eq (by rw [← halves_cover])).trans (((pointsTo_union halves_disj).1).trans ?_)
    rw [← kvHalf_0, ← kvHalf_0]; exact key f
  · refine exists_elim fun f => ?_
    refine (Entails.of_eq (by rw [← halves_cover])).trans (((pointsTo_union halves_disj).1).trans ?_)
    rw [← kvHalf_1, ← kvHalf_1]; exact key f
omit [FloatOps F] in
theorem kvWhole_join (a : Bool) (c : Dev nD) : iprop((∃ f, kvHalf a c 0 f) ∗ (∃ f, kvHalf a c 1 f)) ⊢ (kvWhole a c : sProp 𝕄) := by
  cases a
  · iintro ⟨⟨%f, H0⟩, ⟨%g, H1⟩⟩
    have h := pointsTo_join (Ix := Unit) (Name := ℕ) (U := UU) (Lvl := ℕ) (ℓ := (kvBuf false 0).view.loc (c : Thread nD τ)) (q := fullShare) (f := f) (g := g) halves_disj
    rw [halves_cover, ← kvHalf_0, ← kvHalf_0] at h
    unfold kvWhole
    iexists _
    iapply h
    isplitl [H0]; · iexact H0
    iexact H1
  · iintro ⟨⟨%f, H0⟩, ⟨%g, H1⟩⟩
    have h := pointsTo_join (Ix := Unit) (Name := ℕ) (U := UU) (Lvl := ℕ) (ℓ := (kvBuf true 0).view.loc (c : Thread nD τ)) (q := fullShare) (f := f) (g := g) halves_disj
    rw [halves_cover, ← kvHalf_1, ← kvHalf_1] at h
    unfold kvWhole
    iexists _
    iapply h
    isplitl [H0]; · iexact H0
    iexact H1

/-- Both lanes, from their semaphores, the buffers and the arrays. -/
def kvAll (c : Dev nD) : sProp 𝕄 := iprop((kvSems c ∗ kvWhole (F := F) false c ∗ kvWhole (F := F) true c)
  ∗ (((c : Thread nD τ).loc main_arg2) ↦{fullShare} arr m c main_arg2) ∗ (((c : Thread nD τ).loc main_arg3) ↦{fullShare} arr m c main_arg3))

omit [FloatOps F] in
theorem kvSems_eq (c : Dev nD) : (kvSems c : sProp 𝕄) = iprop((semVal ((c : Thread nD τ), .dma (kvSem false 0)) 0 ∗ semVal ((c : Thread nD τ), .dma (kvSem false 1)) 0)
    ∗ (semVal ((c : Thread nD τ), .dma (kvSem true 0)) 0 ∗ semVal ((c : Thread nD τ), .dma (kvSem true 1)) 0)) := by
  unfold kvSems
  rw [bigSep_univ_prod, bigSep_univ_eq_bigSepL [false, true] (by decide) (by decide)]
  show iprop(bigSep Finset.univ (fun p : Fin 2 => semVal ((c : Thread nD τ), .dma (kvSem false p)) 0) ∗ bigSep Finset.univ (fun p : Fin 2 => semVal ((c : Thread nD τ), .dma (kvSem true p)) 0)) = _
  rw [bigSep_univ_eq_bigSepL [0, 1] (by decide) (by decide), bigSep_univ_eq_bigSepL [0, 1] (by decide) (by decide)]; rfl

omit [FloatOps F] in
theorem arr_shares (a : Bool) (c : Dev nD) : (arrPts m a c Finset.univ fullShare : sProp 𝕄)
    ⊣⊢ iprop(arrPts m a c Finset.univ (shr 0) ∗ arrPts m a c Finset.univ (shr 1)) := by
  cases a <;> exact pointsTo_share (PosShare.mem_left_op_right fullShare)

omit [FloatOps F] in
theorem kvAll_out (c : Dev nD) : (kvAll m c : sProp 𝕄) ⊢ iprop(laneIdle m c 0 ∗ laneIdle m c 1) := by
  have e2 : ((((c : Thread nD τ).loc main_arg2) ↦{fullShare} arr m c main_arg2) : sProp 𝕄) = arrPts m false c Finset.univ fullShare := rfl
  have e3 : ((((c : Thread nD τ).loc main_arg3) ↦{fullShare} arr m c main_arg3) : sProp 𝕄) = arrPts m true c Finset.univ fullShare := rfl
  unfold kvAll laneIdle kvIdle
  rw [e2, e3, kvSems_eq]
  iintro ⟨⟨⟨⟨s0, s1⟩, ⟨s2, s3⟩⟩, Hk, Hv⟩, H2, H3⟩
  ihave Hk := (kvWhole_split (F := F) false c) $$ Hk
  ihave Hv := (kvWhole_split (F := F) true c) $$ Hv
  ihave H2 := (arr_shares m false c).1 $$ H2
  ihave H3 := (arr_shares m true c).1 $$ H3
  icases Hk with ⟨Hk0, Hk1⟩
  icases Hv with ⟨Hv0, Hv1⟩
  icases H2 with ⟨H20, H21⟩
  icases H3 with ⟨H30, H31⟩
  isplitl [s0 s2 Hk0 Hv0 H20 H30]
  · isplitl [s0 Hk0 H20]
    · isplitl [s0]; · iexact s0
      isplitl [Hk0]; · iexact Hk0
      iexact H20
    · isplitl [s2]; · iexact s2
      isplitl [Hv0]; · iexact Hv0
      iexact H30
  · isplitl [s1 Hk1 H21]
    · isplitl [s1]; · iexact s1
      isplitl [Hk1]; · iexact Hk1
      iexact H21
    · isplitl [s3]; · iexact s3
      isplitl [Hv1]; · iexact Hv1
      iexact H31
omit [FloatOps F] in
theorem kvAll_in (c : Dev nD) : iprop(laneIdle m c 0 ∗ laneIdle m c 1) ⊢ (kvAll m c : sProp 𝕄) := by
  have e2 : ((((c : Thread nD τ).loc main_arg2) ↦{fullShare} arr m c main_arg2) : sProp 𝕄) = arrPts m false c Finset.univ fullShare := rfl
  have e3 : ((((c : Thread nD τ).loc main_arg3) ↦{fullShare} arr m c main_arg3) : sProp 𝕄) = arrPts m true c Finset.univ fullShare := rfl
  unfold kvAll laneIdle kvIdle
  rw [e2, e3, kvSems_eq]
  iintro ⟨⟨⟨s0, Hk0, H20⟩, ⟨s2, Hv0, H30⟩⟩, ⟨⟨s1, Hk1, H21⟩, ⟨s3, Hv1, H31⟩⟩⟩
  ihave Hk := (kvWhole_join (F := F) false c) $$ [Hk0 Hk1]
  · isplitl [Hk0]; · iexact Hk0
    iexact Hk1
  ihave Hv := (kvWhole_join (F := F) true c) $$ [Hv0 Hv1]
  · isplitl [Hv0]; · iexact Hv0
    iexact Hv1
  ihave H2 := (arr_shares m false c).2 $$ [H20 H21]
  · isplitl [H20]; · iexact H20
    iexact H21
  ihave H3 := (arr_shares m true c).2 $$ [H30 H31]
  · isplitl [H30]; · iexact H30
    iexact H31
  isplitl [s0 s1 s2 s3 Hk Hv]
  · isplitl [s0 s1 s2 s3]
    · isplitl [s0 s1]
      · isplitl [s0]; · iexact s0
        iexact s1
      · isplitl [s2]; · iexact s2
        iexact s3
    isplitl [Hk]; · iexact Hk
    iexact Hv
  isplitl [H2]; · iexact H2
  iexact H3

/-! ## Into the first point and out of the last -/

/-- What a device holds at launch besides its buffers on the core. -/
def start (c : Dev nD) : sProp 𝕄 := iprop(G' m c
  ∗ (cred (tallyAt (barCell c) () 2) ∗ bigSep Finset.univ fun h : Fin 7 => iprop(cred (tallyAt (hopCell false true h c) () (hopN false)) ∗ cred (tallyAt (hopCell true true h c) () (hopN true))))
  ∗ levAts L lv ∗ (((c : Thread nD τ).loc main_arg2) ↦{fullShare} arr m c main_arg2) ∗ (((c : Thread nD τ).loc main_arg3) ↦{fullShare} arr m c main_arg3))
/-- What it holds at the end besides them. -/
def finish (c : Dev nD) : sProp 𝕄 := iprop(unscopedSems0 c
  ∗ (((c : Thread nD τ).loc main_arg2) ↦{fullShare} arr m c main_arg2) ∗ (((c : Thread nD τ).loc main_arg3) ↦{fullShare} arr m c main_arg3))

omit [FloatOps F] in
theorem scr0_in (c : Dev nD) (f : Buf (Elt F) ((c : Thread nD τ).loc cc0_scratch0)) : ((((c : Thread nD τ).loc cc0_scratch0) ↦{fullShare} f) : sProp 𝕄) ⊢ xbf c f := by
  unfold xbf
  rw [owns_whole_eq]
  iintro H
  iexists f
  isplitr; · ipureintro; rfl
  iexact H
omit [FloatOps F] in
theorem scr0_out (c : Dev nD) (X : Vec F S2x512x768 .bf16) : (xbf c X : sProp 𝕄) ⊢ iprop(∃ f : Buf (Elt F) ((c : Thread nD τ).loc cc0_scratch0), ((c : Thread nD τ).loc cc0_scratch0) ↦{fullShare} f) := by
  unfold xbf
  rw [owns_whole_eq]
  iintro ⟨%f, -, H⟩
  iexists f
  iexact H

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨H2, H3⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [H2]; · iexact H2
    iexact H3
  · iempintro

omit [FloatOps F] in
/-- One device's launch tokens and positions, grouped by hop. -/
theorem linear_out (c : Dev nD) : iprop((bigSep Finset.univ fun k : CK => (atPos ER (kcell (c, k)) 0 ∅ 0 : sProp 𝕄)) ∗ payToks c
      ∗ (bigSep Finset.univ fun h : Fin 7 => iprop(cred (tallyAt (hopCell false true h c) () (hopN false)) ∗ cred (tallyAt (hopCell true true h c) () (hopN true)))))
    ⊢ iprop((atPos ER (barCell c) 0 ∅ 0 ∗ dutyTok ER (barCell (left c)) 0 true ∗ dutyTok ER (barCell (right c)) 0 false)
      ∗ bigSep Finset.univ fun h : Fin 7 => iprop(hopPre (F := F) false c h ∗ hopPre (F := F) true c h)) := by
  have key : iprop((bigSep Finset.univ fun h : Fin 7 => iprop((atPos ER (hopCell false false h c) 0 ∅ 0 ∗ atPos ER (hopCell false true h c) 0 ∅ 0) ∗ (atPos ER (hopCell true false h c) 0 ∅ 0 ∗ atPos ER (hopCell true true h c) 0 ∅ 0)))
      ∗ (bigSep Finset.univ fun h : Fin 7 => iprop((dutyTok ER (hopCell false false h c) 0 false ∗ dutyTok ER (hopCell false true h (right c)) 0 false)
        ∗ (dutyTok ER (hopCell true false h c) 0 false ∗ dutyTok ER (hopCell true true h (right c)) 0 false)))
      ∗ (bigSep Finset.univ fun h : Fin 7 => iprop(cred (tallyAt (hopCell false true h c) () (hopN false)) ∗ cred (tallyAt (hopCell true true h c) () (hopN true)))))
      ⊢ (bigSep Finset.univ fun h : Fin 7 => iprop(hopPre (F := F) false c h ∗ hopPre (F := F) true c h)) := by
    rw [← bigSep_sep', ← bigSep_sep']
    refine bigSep_mono fun h _ => ?_
    have hh : ∀ P0 P1 P2 P3 T0 T1 T2 T3 C0 C1 : sProp 𝕄, iprop(((P0 ∗ P1) ∗ (P2 ∗ P3)) ∗ ((T0 ∗ T1) ∗ (T2 ∗ T3)) ∗ (C0 ∗ C1))
        ⊢ iprop((T0 ∗ T1 ∗ C0 ∗ P0 ∗ P1) ∗ (T2 ∗ T3 ∗ C1 ∗ P2 ∗ P3)) := fun P0 P1 P2 P3 T0 T1 T2 T3 C0 C1 => by
      iintro ⟨⟨⟨p0, p1⟩, ⟨p2, p3⟩⟩, ⟨⟨t0, t1⟩, ⟨t2, t3⟩⟩, ⟨c0, c1⟩⟩
      isplitl [p0 p1 t0 t1 c0]
      · isplitl [t0]; · iexact t0
        isplitl [t1]; · iexact t1
        isplitl [c0]; · iexact c0
        isplitl [p0]; · iexact p0
        iexact p1
      · isplitl [t2]; · iexact t2
        isplitl [t3]; · iexact t3
        isplitl [c1]; · iexact c1
        isplitl [p2]; · iexact p2
        iexact p3
    exact hh _ _ _ _ _ _ _ _ _ _
  unfold payToks
  rw [bigSep_CK, bigSep_hop]
  iintro ⟨⟨Hb, Ha⟩, ⟨⟨H1, H2⟩, Ht⟩, Hc⟩
  isplitl [Hb H1 H2]
  · isplitl [Hb]; · iexact Hb
    isplitl [H2] <;> iassumption
  iapply key
  isplitl [Ha]; · iexact Ha
  isplitl [Ht]; · iexact Ht
  iexact Hc

theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = stateΦ m c 0 from rfl, scopedRest0_eq]
  unfold start G' linear stateΦ headS startS
  rw [if_pos rfl]
  iintro ⟨⟨⟨%K, #HR, Hat, Htk, Hkv⟩, ⟨Hcb, Hch⟩, #HL, H2, H3⟩, -, ⟨%f0, Hs0⟩, ⟨%f1, Hs1⟩, ⟨%f2, Hs2⟩, ⟨%f3, Hs3⟩, ⟨%f4, Hs4⟩⟩
  ihave Hlin := (linear_out (F := F) c) $$ [Hat Htk Hch]
  · isplitl [Hat]; · iexact Hat
    isplitl [Htk]; · iexact Htk
    iexact Hch
  icases Hlin with ⟨⟨Hb, Hd1, Hd2⟩, Hh⟩
  have hl : kvAll m c ⊢ iprop(laneIdle m c 0 ∗ laneIdle m c (0 + 1)) := kvAll_out m c
  ihave Hl := hl $$ [Hkv Hs3 Hs4 H2 H3]
  · unfold kvAll kvWhole
    isplitl [Hkv Hs3 Hs4]
    · isplitl [Hkv]; · iexact Hkv
      isplitl [Hs3]; · iexists f3; iexact Hs3
      iexists f4; iexact Hs4
    isplitl [H2]; · iexact H2
    iexact H3
  icases Hl with ⟨Hl0, Hl1⟩
  iexists K
  isplitr; · iexact HR
  isplitr; · iexact HL
  isplitr [Hl1]
  · isplitr [Hl0]
    · isplitl [Hb Hcb Hd1 Hd2]
      · isplitl [Hb]; · iexact Hb
        isplitl [Hcb]; · iexact Hcb
        isplitl [Hd1]; · iexact Hd1
        iexact Hd2
      isplitl [Hh]; · iexact Hh
      isplitl [Hs0]
      · iexists f0
        ihave H := (scr0_in (F := F) c f0) $$ Hs0
        iexact H
      unfold gWhole
      isplitl [Hs1]
      · iexists f1; iexact Hs1
      · iexists f2; iexact Hs2
    iexact Hl0
  iexact Hl1

theorem phi_out (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = stateΦ m c 16 from rfl, scopedRest0_eq, ownSems0_eq]
  unfold stateΦ headS laneAt finish
  rw [if_neg (by decide), dif_neg (by decide), unscopedSems0_eq, bigSep_hop]
  iintro ⟨%K, -, -, ⟨Hb, Hx, HS, Hl0⟩, Hl1⟩
  have hr : ringS m c (min (16 - 1) 7) (min 16 7) ⊢ _ := ringS_end m c
  ihave HS := hr $$ HS
  icases HS with ⟨Hz, Hg0, Hg1⟩
  have hl : iprop(laneIdle m c 16 ∗ laneIdle m c (16 + 1)) ⊢ kvAll m c := kvAll_in m c
  ihave Hl := hl $$ [Hl0 Hl1]
  · isplitl [Hl0]; · iexact Hl0
    iexact Hl1
  unfold kvAll kvWhole gWhole
  icases Hl with ⟨⟨Hkv, ⟨%f3, Hs3⟩, ⟨%f4, Hs4⟩⟩, H2, H3⟩
  icases Hg0 with ⟨%f1, Hs1⟩
  icases Hg1 with ⟨%f2, Hs2⟩
  isplitl [Hb H2 H3]
  · isplitl [Hb]; · iexact Hb
    isplitl [H2]; · iexact H2
    iexact H3
  isplitl [Hz Hkv]
  · isplitl [Hz]; · iexact Hz
    iexact Hkv
  isplitl [Hx]
  · iapply (scr0_out (F := F) c (XB m c)); iexact Hx
  isplitl [Hs1]; · iexists f1; iexact Hs1
  isplitl [Hs2]; · iexists f2; iexact Hs2
  isplitl [Hs3]; · iexists f3; iexact Hs3
  iexists f4; iexact Hs4

end Cert.RingProof

end
-- ==== Proof.Main.lean ====
/-
# The run of the program
-/
module

public import proofs.«01_k».proof.Proof.Entry
public import proofs.«01_k».proof.Proof.Gen.KernelIdeal.Frame
public import Idealize.ShloMosaic.Lib.Pipeline.Launch
public import Idealize.ShloMosaic.Lib.Pipeline.Kit
public import Idealize.ShloMosaic.Lib.Pipeline.CollectiveSegs
public import Idealize.ShloMosaic.Lib.Tactic
public import Idealize.ShloMosaic.Lib.Transfers
public import Idealize.ShloMosaic.Lib.ValueIdxCore

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem waits (c : Dev nD) : (levAts L lv : sProp 𝕄) ⊢ Pipeline.cellsWaits cfgs (dats m) () 0 c :=
  Pipeline.cellsWaits_intro cfgs (dats m) () 0 c fun w s t => mayWait_low c _ (by fin_cases w <;> fin_cases s <;> decide) t.val

/-- What the run leaves in each window's array. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg2) = arr m c main_arg2 ∧ r.2.mem ((c : Thread nD τ).loc main_arg3) = arr m c main_arg3

/-- What the end of a device says of the final state. -/
def QY (c : Dev nD) (s : MemSt nD τ sig (Elt F)) : Prop :=
  (s.mem ((c : Thread nD τ).loc main_arg2) = arr m c main_arg2 ∧ s.mem ((c : Thread nD τ).loc main_arg3) = arr m c main_arg3)
    ∧ ∀ sm : SemLoc sig, sm.isScoped .tc = false → s.sem ((c.tc : Thread nD τ), sm) = 0

theorem finish_read (c : Dev nD) (s' : Phys nD τ sig (Elt F)) : iprop(finish m c ∗ emp ∗ SI s') ⊢ |={Set.univ}=> (iprop(⌜QY m c s'.mem⌝ ∗ SI s') : sProp 𝕄) := by
  unfold finish
  iintro ⟨⟨Hu, H2, H3⟩, -, HSI⟩
  ihave H := (persistent_entails_right (SI_pointsTo_agree (st := s') (ℓ := (c : Thread nD τ).loc main_arg2) (I := Finset.univ) (q := fullShare) (f := arr m c main_arg2))) $$ [HSI H2]
  · isplitl [HSI]; · iexact HSI
    iexact H2
  icases H with ⟨%h2, HSI, -⟩
  ihave H := (persistent_entails_right (SI_pointsTo_agree (st := s') (ℓ := (c : Thread nD τ).loc main_arg3) (I := Finset.univ) (q := fullShare) (f := arr m c main_arg3))) $$ [HSI H3]
  · isplitl [HSI]; · iexact HSI
    iexact H3
  icases H with ⟨%h3, HSI, -⟩
  imod (Pipeline.unscopedSems0_read (X := unscopedSems0 c) (c := c) fupd_intro s') $$ [Hu HSI] with H
  · isplitl [Hu]; · iexact Hu
    iexact HSI
  icases H with ⟨%hs, HSI⟩
  imodintro
  isplitr; · ipureintro; exact ⟨⟨funext fun i => h2 i (Finset.mem_univ i), funext fun i => h3 i (Finset.mem_univ i)⟩, hs⟩
  iexact HSI

set_option maxRecDepth 16384 in
/-- From any memory with zero counters, for any float values, every fair execution of the program on the eight devices
    ends, with each device's arrays at the computed contents and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun c => owedFrom_seven c)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (fund_ring m) $$ HX with HG
      imodintro
      isplitl [HP]; · iexact HP
      iexact HG)
    (hglob := glob m)
    (hA := fun _ _ => rfl) (hpf := fun _ k => k.elim0)
    (X := start m) (Y := finish m) (Z := fun _ => iprop(emp))
    (hX := start_intro m ρ) (hin := phi_in m) (hout := phi_out m)
    (QY := QY m)
    (hY := finish_read m)
    (hQ := fun _ h hs => ⟨fun c => ⟨(h c).1, (h c).2.2.1⟩, sem_eq_zero hs fun c => (h c).2.2.2⟩)

/-- The inputs that windows read hold what they held. -/
theorem finalA_0 (c : Dev nD) : finalA m c 0 = m ((cfg0.win 0).arr.view.loc (c : Thread nD τ)) := (dats m 0 c).arrAt_in 0 rfl _
theorem finalA_1 (c : Dev nD) : finalA m c 1 = m ((cfg0.win 1).arr.view.loc (c : Thread nD τ)) := (dats m 0 c).arrAt_in 1 rfl _
theorem finalA_2 (c : Dev nD) : finalA m c 2 = m ((cfg0.win 2).arr.view.loc (c : Thread nD τ)) := (dats m 0 c).arrAt_in 2 rfl _

end Cert.RingProof

end
-- ==== Proof.Head.lean ====
/-
# One head of a step
-/
module

public import proofs.«01_k».proof.Proof.Body4
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One head of a step, and a step's product as its eight heads -/

section Generic

/-- The exponentials of one head's scores. -/
def eV (q : FVec F S512x64 .bf16) (msk : IVec S512x512 1) (k : Vec F S1x512x1x64 .f32) : FVec F S512x512 .bf16 :=
  truncf .bf16 (exp (select msk
    (matmul dot_S512x64_S512x64_S512x512_1_1_0_0_n_n none q
      (truncf .bf16 (shapeCast S512x64 k shapeCasts_S1x512x1x64_S512x64) bitsLt_bf16_f32) (constant S512x512 .f32 0x00000000#32))
    (broadcast S512x512 (Scalar.ofBits .f32 0xCE6E6B28#32)))) bitsLt_bf16_f32

/-- A row's sum of exponentials. -/
def denV (e : FVec F S512x512 .bf16) : FVec F S512x1 .f32 :=
  shapeCast S512x1 (multiReduction .add [1] S512 (extf .f32 e bitsLt_bf16_f32) 0x00000000#32 reduces_S512x512_S512 (.inl rfl) rfl)
    shapeCasts_S512_S512x1

/-- One head's context. -/
def headV (e : FVec F S512x512 .bf16) (v : Vec F S1x512x1x64 .f32) : FVec F S512x64 .bf16 :=
  truncf .bf16 (divf
    (matmul dot_S512x512_S512x64_S512x64_1_0_0_1_n_n none e
      (truncf .bf16 (shapeCast S512x64 v shapeCasts_S1x512x1x64_S512x64) bitsLt_bf16_f32) (constant S512x64 .f32 0x00000000#32))
    (broadcastTo S512x64 (denV e) broadcasts_S512x1_S512x64)) bitsLt_bf16_f32

theorem slices_head (j : Fin 8) : S512x512.Slices ![0, 64 * j.val] S512x64 := by
  revert j; decide

/-- Head `j`'s 64 columns of the queries. -/
def qHead (q : FVec F S512x512 .bf16) (j : Fin 8) : FVec F S512x64 .bf16 :=
  extractStridedSlice S512x64 ![0, 64 * j.val] q (slices_head j)

variable (xr : Vec F S1x512x768 .bf16) (wq : Vec F S1x768x512 .bf16) (kk vv : Fin 8 → Vec F S1x512x1x64 .f32) (wo : Vec F S1x512x768 .bf16)

/-- The eight heads' contexts side by side. -/
def ctxV : FVec F S512x512 .bf16 :=
  concatenate S512x512 1 (List.ofFn fun j : Fin 8 => (⟨S512x64, headV (eV (qHead (k0_pay5 xr wq) j) mskV (kk j)) (vv j)⟩ : (s : Shape) × (s.Idx → F .bf16)))
    concatenates_S512x64_S512x64_S512x64_S512x64_S512x64_S512x64_S512x64_S512x64_S512x512_d1

theorem partV_eq : partV xr wq kk vv wo =
    matmul dot_S512x512_S512x768_S512x768_1_0_0_1_n_n none (ctxV xr wq kk vv)
      (shapeCast S512x768 wo shapeCasts_S1x512x768_S512x768) (constant S512x768 .f32 0x00000000#32) := rfl

end Generic

end Cert.RingProof

end
-- ==== Proof.HeadI.lean ====
/-
# One head of a step, read at an index
-/
module

public import proofs.«01_k».proof.Proof.Head
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore
public import Idealize.ShloMosaic.Lib.Pointwise
public import Idealize.ShloMosaic.Lib.Pipeline.Value

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One head read at an index -/

/-- The value of a masked-out score. -/
def negBig : EReal := Ideal.ofBits .f32 0xCE6E6B28#32
/-- One eighth. -/
def eighth : EReal := Ideal.ofBits .f32 0x3E000000#32

theorem pay5_apply (xr : Vec Ideal S1x512x768 .bf16) (wq : Vec Ideal S1x768x512 .bf16) (i : Fin 512) (l : Fin 512) :
    k0_pay5 xr wq (ix2 i l) = (∑ d : Fin 768, xr (ix3 0 i d) * wq (ix3 0 d l)) * eighth := by
  pointwise [k0_pay5, eighth]

theorem qHead_apply (q : FVec Ideal S512x512 .bf16) (j : Fin 8) (i : Fin 512) (d : Fin 64) :
    qHead q j (ix2 i d) = q (ix2 i ⟨64 * j.val + d.val, by have := j.isLt; have := d.isLt; omega⟩) := by
  refine extractStridedSlice_apply _ _ _ _ _ fun a => ?_
  match a with
  | ⟨0, _⟩ => show i.val = 0 + i.val; omega
  | ⟨1, _⟩ => rfl

theorem eV_apply (q : FVec Ideal S512x64 .bf16) (msk : IVec S512x512 1) (k : Vec Ideal S1x512x1x64 .f32) (i l : Fin 512) :
    eV q msk k (ix2 i l) = Ideal.exp (Scalar.select (msk (ix2 i l)) (∑ d : Fin 64, q (ix2 i d) * k (ix4 0 l 0 d)) negBig) := by
  pointwise [eV, negBig]

theorem headV_apply (e : FVec Ideal S512x512 .bf16) (v : Vec Ideal S1x512x1x64 .f32) (i : Fin 512) (d : Fin 64) :
    headV e v (ix2 i d) = Ideal.div (∑ l : Fin 512, e (ix2 i l) * v (ix4 0 l 0 d)) (∑ l : Fin 512, e (ix2 i l)) := by
  pointwise [headV, denV]

theorem pay6_apply (i l : Fin 512) : k0_pay6 (ix2 i l) = BitVec.ofNat 32 (i.val / 64) := by
  pointwise [k0_pay6]
  revert i
  decide +kernel

/-- Which key a query sees: those whose block of 64 agrees with its own modulo 4. -/
theorem mskV_apply (i l : Fin 512) : mskV (ix2 i l) = if i.val / 64 % 4 = l.val / 64 % 4 then 1#1 else 0#1 := by
  pointwise [mskV, k0_pay8, k0_pay7, ioV, pay6_apply]
  obtain ⟨a, ha⟩ : ∃ a : Fin 8, i.val / 64 = a.val := ⟨⟨i.val / 64, by have := i.isLt; omega⟩, rfl⟩
  simp only [ha]
  clear ha
  revert a l
  decide +kernel

section Part
variable (xr : Vec Ideal S1x512x768 .bf16) (wq : Vec Ideal S1x768x512 .bf16) (kk vv : Fin 8 → Vec Ideal S1x512x1x64 .f32) (wo : Vec Ideal S1x512x768 .bf16)

theorem ctxV_apply (i : Fin 512) (j : Fin 8) (d : Fin 64) :
    ctxV xr wq kk vv (ix2 i ⟨64 * j.val + d.val, by have := j.isLt; have := d.isLt; omega⟩)
      = headV (eV (qHead (k0_pay5 xr wq) j) mskV (kk j)) (vv j) (ix2 i d) := by
  have hd := d.isLt
  unfold ctxV
  refine concatenate_ofFn_apply (t := S512x512) (s₁ := S512x64) (1 : Fin 2)
    (fun j : Fin 8 => headV (eV (qHead (k0_pay5 xr wq) j) mskV (kk j)) (vv j)) _ rfl 64 rfl _ j ?_ (ix2 i d) ?_ ?_
  · show (64 * j.val + d.val) / 64 = j.val
    omega
  · show d.val = (64 * j.val + d.val) % 64
    omega
  · intro b hb
    match b with
    | ⟨0, _⟩ => rfl
    | ⟨1, _⟩ => exact absurd rfl hb

theorem partV_apply (i : Fin 512) (n : Fin 768) :
    partV xr wq kk vv wo (ix2 i n) = ∑ p : Fin 512, ctxV xr wq kk vv (ix2 i p) * wo (ix3 0 p n) := by
  rw [partV_eq]
  generalize ctxV xr wq kk vv = C
  pointwise []

end Part

end Cert.RingProof

end
-- ==== Proof.Parts.lean ====
/-
# The result array as a sum of the steps’ products, over the devices’ arrays
-/
module

public import proofs.«01_k».proof.Proof.HeadI
public import proofs.«01_k».proof.Proof.Main
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The windows' blocks are the device's own arrays -/

section Blocks
omit [FloatOps F] in
theorem xS_eq (c : Dev nD) (i : S2x512x768.Idx) : xS m c i = arr m c main_arg0 i := by
  show arr m c main_arg0 (((cfg0.win 0).rect pt0).emb i) = _
  refine congrArg _ (funext fun a => Fin.ext (Window.rect_emb_val_of_index_zero (cfg0.win 0) pt0 a ?_ i))
  revert a; decide +kernel
omit [FloatOps F] in
theorem wqS_eq (c : Dev nD) (i : S768x512.Idx) : wqS m c i = arr m c main_arg1 i := by
  show arr m c main_arg1 (((cfg0.win 1).rect pt0).emb i) = _
  refine congrArg _ (funext fun a => Fin.ext (Window.rect_emb_val_of_index_zero (cfg0.win 1) pt0 a ?_ i))
  revert a; decide +kernel
omit [FloatOps F] in
theorem woS_eq (c : Dev nD) (i : S512x768.Idx) : woS m c i = arr m c main_arg4 i := by
  show arr m c main_arg4 (((cfg0.win 2).rect pt0).emb i) = _
  refine congrArg _ (funext fun a => Fin.ext (Window.rect_emb_val_of_index_zero (cfg0.win 2) pt0 a ?_ i))
  revert a; decide +kernel
end Blocks

/-! ## A step's operands, read at an index -/

section Operands
variable (M : (ℓ : Loc nD τ sig) → Buf (Elt Ideal) ℓ)

theorem pay2_apply (x : Vec Ideal S2x512x768 .f32) (b : Fin 2) (i : Fin 512) (e : Fin 768) : k0_pay2 x (ix3 b i e) = x (ix3 b i e) := by
  pointwise [k0_pay2]
theorem pay3_apply (x : Vec Ideal S768x512 .f32) (e : Fin 768) (l : Fin 512) : k0_pay3 x (ix3 0 e l) = x (ix2 e l) := by
  pointwise [k0_pay3]
theorem pay4_apply (x : Vec Ideal S512x768 .f32) (p : Fin 512) (n : Fin 768) : k0_pay4 x (ix3 0 p n) = x (ix2 p n) := by
  pointwise [k0_pay4]

theorem xRow_apply (c : Dev nD) (b : ℕ) (hb : b < 2) (i : Fin 512) (e : Fin 768) :
    xRow M c b hb (ix3 0 i e) = arr M c main_arg0 (ix3 ⟨b, hb⟩ i e) := by
  show XB M c (ValueIdx.ix3 ⟨b, hb⟩ i e) = _
  rw [← ix3_eq_valueIdx]
  exact (pay2_apply _ _ _ _).trans (xS_eq M c _)
theorem wqB_apply (k : Dev nD) (e : Fin 768) (l : Fin 512) : wqB M k (ix3 0 e l) = arr M k main_arg1 (ix2 e l) :=
  (pay3_apply _ _ _).trans (wqS_eq M k _)
theorem woB_apply (k : Dev nD) (p : Fin 512) (n : Fin 768) : woB M k (ix3 0 p n) = arr M k main_arg4 (ix2 p n) :=
  (pay4_apply _ _ _).trans (woS_eq M k _)

/-- The batch row that device `c` works on in half `b` of its steps, and head `j` of device `k`. -/
def batchOf (c : Dev nD) (b : Fin 2) : Fin 16 := ⟨2 * c.val + b.val, by have := c.isLt; have := b.isLt; have : nD = 8 := rfl; omega⟩
def headOf (k : Dev nD) (j : Fin 8) : Fin 64 := ⟨8 * k.val + j.val, by have := k.isLt; have := j.isLt; have : nD = 8 := rfl; omega⟩

theorem srcIx_apply (c : Dev nD) (b : Fin 2) (n : Fin 16) (hb : n.val / 8 = b.val) (l : Fin 512) (j : Fin 8) (d : Fin 64) :
    srcIx c n (ValueIdx.ix4 0 l j d) = ix4 (batchOf c b) l (headOf (back c n.val) j) d := by
  rw [ix4_eq_valueIdx]
  unfold srcIx
  have h : (⟨2 * c.val + n.val / 8, by have := c.isLt; have := n.isLt; have : nD = 8 := rfl; omega⟩ : Fin 16) = batchOf c b :=
    Fin.ext (by simp only [batchOf, hb])
  rw [h]; rfl
theorem kRow_apply (c : Dev nD) (b : Fin 2) (n : Fin 16) (hb : n.val / 8 = b.val) (l : Fin 512) (j : Fin 8) (d : Fin 64) :
    kRow M c n j (ix4 0 l 0 d) = arr M c main_arg2 (ix4 (batchOf c b) l (headOf (back c n.val) j) d) := by
  show arr M c main_arg2 (srcIx c n (ValueIdx.ix4 0 l j d)) = _
  rw [srcIx_apply c b n hb]
theorem vRow_apply (c : Dev nD) (b : Fin 2) (n : Fin 16) (hb : n.val / 8 = b.val) (l : Fin 512) (j : Fin 8) (d : Fin 64) :
    vRow M c n j (ix4 0 l 0 d) = arr M c main_arg3 (ix4 (batchOf c b) l (headOf (back c n.val) j) d) := by
  show arr M c main_arg3 (srcIx c n (ValueIdx.ix4 0 l j d)) = _
  rw [srcIx_apply c b n hb]

/-! ## The running sum -/

/-- Step `s` of half `b`. -/
def stepOf (b : Fin 2) (s : ℕ) (hs : s < 8) : Fin cfg0.N := ⟨8 * b.val + s, by rw [N16]; have := b.isLt; omega⟩

theorem first_apply (p : FVec Ideal S512x768 .f32) (i : Fin 512) (n : Fin 768) :
    shapeCast S1x512x768 p shapeCasts_S512x768_S1x512x768 (ix3 0 i n) = p (ix2 i n) := by
  pointwise []
theorem pay1_apply (p : FVec Ideal S512x768 .f32) (X : Vec Ideal S1x512x768 .f32) (i : Fin 512) (n : Fin 768) :
    k0_pay1 p X (ix3 0 i n) = X (ix3 0 i n) + p (ix2 i n) := by
  pointwise [k0_pay1]

/-- After step `s` of half `b` the block holds the sum of the parts of the steps so far. -/
theorem acc_apply (c : Dev nD) (b : Fin 2) (i : Fin 512) (n : Fin 768) : ∀ (s : ℕ) (hs : s < 8),
    acc M c (8 * b.val + s) (ix3 0 i n) = ∑ s' : Fin (s + 1), partAt M c (stepOf b s'.val (by have := s'.isLt; omega)) (ix2 i n)
  | 0, hs => by
    have h8 : (stepOf b 0 hs).val % 8 = 0 := by show (8 * b.val + 0) % 8 = 0; omega
    have e := acc_first M c (stepOf b 0 hs) h8 (acc M c 0)
    rw [afterAt, if_pos h8] at e
    show acc M c (stepOf b 0 hs).val (ix3 0 i n) = _
    rw [← e, first_apply, Fin.sum_univ_one]
    rfl
  | s + 1, hs => by
    have h8 : (stepOf b (s + 1) hs).val % 8 ≠ 0 := by show (8 * b.val + (s + 1)) % 8 ≠ 0; omega
    have e := acc_next M c (stepOf b (s + 1) hs) h8
    rw [afterAt, if_neg h8] at e
    show acc M c (stepOf b (s + 1) hs).val (ix3 0 i n) = _
    rw [← e, pay1_apply, Fin.sum_univ_castSucc]
    exact congrArg (· + _) (acc_apply c b i n s (by omega))
end Operands

/-! ## The result array -/

section Result

/-- The result array of device `c`: each batch row is the running sum after its last step. -/
def outV (c : Dev nD) : Vec F S2x512x768 .f32 := fun i => acc m c (8 * (i 0 : Fin 2).val + 7) (ix3 0 (i 1) (i 2))

theorem out_index : ∀ t : Fin cfg0.N, (cfg0.win 3).index t = ![t.val / 8, 0, 0] := by decide +kernel

theorem out_flushed (c : Dev nD) (t : Fin cfg0.N) (hf : (cfg0.win 3).flush t = true) :
    (dats m 0 c).flushed 3 t = ((cfg0.win 3).blk t).view.read (Elt F) (outV m c) := by
  have h7 : t.val % 8 = 7 := (flush0_3 t).mp hf
  funext y
  show acc m c t.val y = outV m c (((cfg0.win 3).rect t).emb y)
  have e0 : ((((cfg0.win 3).rect t).emb y 0 : Fin 2) : ℕ) = t.val / 8 := by
    refine (Window.rect_emb_val (cfg0.win 3) t y 0).trans ?_
    have h1 : (y 0).val < 1 := (y 0).isLt
    rw [out_index]
    show t.val / 8 * 1 + (y 0).val = t.val / 8
    omega
  have e1 : ((cfg0.win 3).rect t).emb y 1 = y 1 := Fin.ext (Window.rect_emb_val_of_index_zero (cfg0.win 3) t 1 (by rw [out_index]; rfl) y)
  have e2 : ((cfg0.win 3).rect t).emb y 2 = y 2 := Fin.ext (Window.rect_emb_val_of_index_zero (cfg0.win 3) t 2 (by rw [out_index]; rfl) y)
  unfold outV
  rw [e0, e1, e2, show 8 * (t.val / 8) + 7 = t.val by omega]
  refine congrArg _ (funext fun a => ?_)
  match a with
  | ⟨0, _⟩ => exact Fin.ext (by have h1 : (y 0).val < 1 := (y 0).isLt; show (y 0).val = 0; omega)
  | ⟨1, _⟩ => rfl
  | ⟨2, _⟩ => rfl

theorem mem_out (t : Fin cfg0.N) (i : S2x512x768.Idx) (ht : t.val = 8 * (i 0 : Fin 2).val + 7) : i ∈ ((cfg0.win 3).blk t).view.set := by
  have hi : (i 0 : Fin 2).val < 2 := (i 0 : Fin 2).isLt
  show i ∈ ((View.whole main_v1).slice (win0_3.rect t)).set
  rw [View.set_slice_whole, Rect.mem_set_unit]
  intro a
  have hx : (cfg0.win 3).index t = ![(i 0 : Fin 2).val, 0, 0] := by
    rw [out_index, show t.val / 8 = (i 0 : Fin 2).val by omega]
  have h1 : (i 1 : Nat) < 512 := (i 1).isLt
  have h2 : (i 2 : Nat) < 768 := (i 2).isLt
  show (cfg0.win 3).index _ a * (cfg0.win 3).size a ≤ (i a : Nat) ∧ (i a : Nat) < (cfg0.win 3).index _ a * (cfg0.win 3).size a + (cfg0.win 3).xsize _ a
  rw [hx]
  match a with
  | ⟨0, _⟩ => show (i 0 : Fin 2).val * 1 ≤ (i 0 : Fin 2).val ∧ (i 0 : Fin 2).val < (i 0 : Fin 2).val * 1 + 1; omega
  | ⟨1, _⟩ => show 0 * 512 ≤ (i 1 : Nat) ∧ (i 1 : Nat) < 0 * 512 + 512; omega
  | ⟨2, _⟩ => show 0 * 768 ≤ (i 2 : Nat) ∧ (i 2 : Nat) < 0 * 768 + 768; omega

theorem out_cover (i : S2x512x768.Idx) : ∃ t : Fin cfg0.N, (cfg0.win 3).flush t = true ∧ i ∈ ((cfg0.win 3).blk t).view.set := by
  have hi : (i 0 : Fin 2).val < 2 := (i 0 : Fin 2).isLt
  exact ⟨stepOf (i 0) 7 (by decide), (flush0_3 _).mpr (by show (8 * (i 0 : Fin 2).val + 7) % 8 = 7; omega), mem_out _ i rfl⟩

theorem finalA_3 (c : Dev nD) : finalA m c 3 = outV m c :=
  (dats m 0 c).arrAt_eq_of_cover 3 (outV m c) (out_flushed m c) out_cover
end Result

end Cert.RingProof

end
-- ==== Proof.RefV.lean ====
/-
# The reference's result, in named stages
-/
module

public import proofs.«01_k».proof.Proof.Gen.ReferenceIdeal.Run
public import Idealize.ShloMosaic.Lib.Pointwise

@[expose] public section

set_option maxRecDepth 16384

noncomputable section

namespace Cert.RefProof

open Cert.ReferenceIdeal Cert.ReferenceIdeal.Gen Cert.ReferenceIdeal.Value Idealize.ShloMosaic Idealize.ShloMosaic.TcCoe

variable {F : FTy → Type} [FloatOps F]

/-- A position's block of 64. -/
def bR : IVec S512 32 := select (andi (cmpi .ne (signi (iotaInDim S512 32 0)) (broadcastInDim S512 ![] bcast_S_S512 (signi (id (constantI S_ 32 64#32))))) (cmpi .ne (Host.remsi (iotaInDim S512 32 0) (broadcastInDim S512 ![] bcast_S_S512 (id (constantI S_ 32 64#32)))) (broadcastInDim S512 ![] bcast_S_S512 (constantI S_ 32 0#32)))) (subi (Host.divsi (iotaInDim S512 32 0) (broadcastInDim S512 ![] bcast_S_S512 (id (constantI S_ 32 64#32)))) (broadcastInDim S512 ![] bcast_S_S512 (constantI S_ 32 1#32))) (Host.divsi (iotaInDim S512 32 0) (broadcastInDim S512 ![] bcast_S_S512 (id (constantI S_ 32 64#32))))
def fourR : IVec S_ 32 := select (cmpi .eq (id (constantI S_ 32 4#32)) (constantI S_ 32 0#32)) (constantI S_ 32 1#32) (id (constantI S_ 32 4#32))
/-- The keys' blocks as a row, and the queries' as a column. -/
def rowR : IVec S1x512 32 := broadcastInDim S1x512 ![1] bcast_S512_S1x512_1 bR
def colR : IVec S512x1 32 := broadcastInDim S512x1 ![0] bcast_S512_S512x1_0 bR
/-- The same blocks modulo 4. -/
def rowModR : IVec S1x512 32 := select (andi (cmpi .ne (cmpi .slt (Host.remsi rowR (broadcastInDim S1x512 ![] bcast_S_S1x512 fourR)) (broadcastInDim S1x512 ![] bcast_S_S1x512 (constantI S_ 32 0#32))) (broadcastInDim S1x512 ![] bcast_S_S1x512 (cmpi .slt fourR (constantI S_ 32 0#32)))) (cmpi .ne (Host.remsi rowR (broadcastInDim S1x512 ![] bcast_S_S1x512 fourR)) (broadcastInDim S1x512 ![] bcast_S_S1x512 (constantI S_ 32 0#32)))) (addi (Host.remsi rowR (broadcastInDim S1x512 ![] bcast_S_S1x512 fourR)) (broadcastInDim S1x512 ![] bcast_S_S1x512 fourR)) (Host.remsi rowR (broadcastInDim S1x512 ![] bcast_S_S1x512 fourR))
def colModR : IVec S512x1 32 := select (andi (cmpi .ne (cmpi .slt (Host.remsi colR (broadcastInDim S512x1 ![] bcast_S_S512x1 fourR)) (broadcastInDim S512x1 ![] bcast_S_S512x1 (constantI S_ 32 0#32))) (broadcastInDim S512x1 ![] bcast_S_S512x1 (cmpi .slt fourR (constantI S_ 32 0#32)))) (cmpi .ne (Host.remsi colR (broadcastInDim S512x1 ![] bcast_S_S512x1 fourR)) (broadcastInDim S512x1 ![] bcast_S_S512x1 (constantI S_ 32 0#32)))) (addi (Host.remsi colR (broadcastInDim S512x1 ![] bcast_S_S512x1 fourR)) (broadcastInDim S512x1 ![] bcast_S_S512x1 fourR)) (Host.remsi colR (broadcastInDim S512x1 ![] bcast_S_S512x1 fourR))
/-- Which key a query sees. -/
def maskR : IVec S512x512 1 := ori (cmpi .eq (broadcastInDim S512x512 ![0, 1] bcast_S512x1_S512x512_0_1 colR) (broadcastInDim S512x512 ![0, 1] bcast_S1x512_S512x512_0_1 rowR)) (cmpi .eq (broadcastInDim S512x512 ![0, 1] bcast_S1x512_S512x512_0_1 rowModR) (broadcastInDim S512x512 ![0, 1] bcast_S512x1_S512x512_0_1 colModR))
/-- Whether a query sees any key. -/
def keepR : IVec S512 1 := Host.reduce IntOp.ori maskR (constantI S_ 1 0#1) reducesTo_S512x512_S512_d1 h_S_

section Stages
variable (X : FVec F S16x512x768 .f32) (W : FVec F S768x4096 .f32) (K V : FVec F S16x512x64x64 .f32) (O : FVec F S4096x768 .f32)

/-- The queries, by head. -/
def qR : FVec F S16x512x64x64 .f32 := shapeCast _ (Host.dotGeneral dot_S16x512x768_S768x4096_S16x512x4096_2_0_01_1_n_n none X W) shapeCasts_S16x512x4096_S16x512x64x64
/-- The masked scores. -/
def scR : FVec F S16x64x512x512 .f32 := select (broadcastInDim S16x64x512x512 ![0, 1, 2, 3] bcast_S1x1x512x512_S16x64x512x512_0_1_2_3 (broadcastInDim S1x1x512x512 ![2, 3] bcast_S512x512_S1x1x512x512_2_3 maskR)) (mulf (Host.dotGeneral dot_S16x512x64x64_S16x512x64x64_S16x64x512x512_3_3_1_1_02_02 none (qR X W) K) (broadcastInDim S16x64x512x512 ![] bcast_S_S16x64x512x512 (constant S_ .f32 0x3E000000#32))) (broadcastInDim S16x64x512x512 ![] bcast_S_S16x64x512x512 (id (constant S_ .f32 0xCE6E6B28#32)))
/-- A row's largest score. -/
def mxR : FVec F S16x64x512 .f32 := Host.reduce FloatOps.maximumf (scR X W K) (constant S_ .f32 0xFF800000#32) reducesTo_S16x64x512x512_S16x64x512_d3 h_S_
/-- The exponentials. -/
def wR : FVec F S16x64x512x512 .f32 := Host.exp (subf (scR X W K) (broadcastInDim S16x64x512x512 ![0, 1, 2, 3] bcast_S16x64x512x1_S16x64x512x512_0_1_2_3 (broadcastInDim S16x64x512x1 ![0, 1, 2] bcast_S16x64x512_S16x64x512x1_0_1_2 (mxR X W K))))
/-- The row sums. -/
def dR : FVec F S16x64x512x1 .f32 := select (broadcastInDim S16x64x512x1 ![0, 1, 2, 3] bcast_S1x1x512x1_S16x64x512x1_0_1_2_3 (broadcastInDim S1x1x512x1 ![2] bcast_S512_S1x1x512x1_2 keepR)) (broadcastInDim S16x64x512x1 ![0, 1, 2] bcast_S16x64x512_S16x64x512x1_0_1_2 (Host.reduceAdd (wR X W K) (constant S_ .f32 0x00000000#32) reducesTo_S16x64x512x512_S16x64x512_d3 h_S_)) (broadcastInDim S16x64x512x1 ![] bcast_S_S16x64x512x1 (id (constant S_ .f32 0x3F800000#32)))
/-- The weights. -/
def pR : FVec F S16x64x512x512 .f32 := select (broadcastInDim S16x64x512x512 ![0, 1, 2, 3] bcast_S1x1x512x1_S16x64x512x512_0_1_2_3 (broadcastInDim S1x1x512x1 ![2] bcast_S512_S1x1x512x1_2 keepR)) (Host.divf (wR X W K) (broadcastInDim S16x64x512x512 ![0, 1, 2, 3] bcast_S16x64x512x1_S16x64x512x512_0_1_2_3 (dR X W K))) (broadcastInDim S16x64x512x512 ![] bcast_S_S16x64x512x512 (id (constant S_ .f32 0x00000000#32)))
/-- The contexts, heads side by side. -/
def cR : FVec F S16x512x4096 .f32 := shapeCast _ (transpose S16x512x64x64 [0, 3, 1, 2] (Host.dotGeneral dot_S16x512x64x64_S16x64x512x512_S16x64x64x512_1_3_3_2_02_01 none V (pR X W K)) transposes_S16x64x64x512_S16x512x64x64_0_3_1_2) shapeCasts_S16x512x64x64_S16x512x4096
/-- The result. -/
def oR : FVec F S16x512x768 .f32 := Host.dotGeneral dot_S16x512x4096_S4096x768_S16x512x768_2_0_01_1_n_n none (cR X W K V) O
end Stages

theorem res_eq (m : (ℓ : Loc nD τ sig) → Buf (Elt F) ℓ) (c : Dev nD) :
    res_out0 m c = oR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## The stages at an index -/

theorem bR_apply (i : Fin 512) : bR (ix1 i) = BitVec.ofNat 32 (i.val / 64) := by
  pointwise [bR]
  revert i
  decide +kernel

theorem maskR_apply (i l : Fin 512) : maskR (ix2 i l) = if i.val / 64 % 4 = l.val / 64 % 4 then 1#1 else 0#1 := by
  pointwise [maskR, rowModR, colModR, rowR, colR, fourR, bR_apply, id]
  obtain ⟨a, ha⟩ : ∃ a : Fin 8, i.val / 64 = a.val := ⟨⟨i.val / 64, by have := i.isLt; omega⟩, rfl⟩
  obtain ⟨c, hc⟩ : ∃ c : Fin 8, l.val / 64 = c.val := ⟨⟨l.val / 64, by have := l.isLt; omega⟩, rfl⟩
  simp only [ha, hc]
  clear ha hc
  revert a c
  decide +kernel

theorem keepR_apply (i : Fin 512) : keepR (ix1 i) = 1#1 := by
  pointwise [keepR]
  have h1 : ∀ x : BitVec 1, IntOp.ori 1#1 x = 1#1 := by decide
  rw [← Finset.insert_erase (Finset.mem_univ i), Finset.fold_insert (Finset.notMem_erase i _), maskR_apply, if_pos rfl]
  exact h1 _

section Ideal
variable (X : FVec Ideal S16x512x768 .f32) (W : FVec Ideal S768x4096 .f32) (K V : FVec Ideal S16x512x64x64 .f32) (O : FVec Ideal S4096x768 .f32)
variable (b : Fin 16) (i l : Fin 512) (h d : Fin 64)

theorem qR_apply : qR X W (ix4 b i h d) = ∑ e : Fin 768, X (ix3 b i e) * W (ix2 e ⟨64 * h.val + d.val, by have := h.isLt; have := d.isLt; omega⟩) := by
  pointwise [qR]
  simp only [Nat.mul_comm h.val 64]

theorem scR_apply : scR X W K (ix4 b h i l) = Scalar.select (maskR (ix2 i l))
    ((∑ d : Fin 64, qR X W (ix4 b i h d) * K (ix4 b l h d)) * Ideal.ofBits .f32 0x3E000000#32) (Ideal.ofBits .f32 0xCE6E6B28#32) := by
  unfold scR
  generalize qR X W = Q
  pointwise [id]

theorem ofBits_negInf : Ideal.ofBits .f32 0xFF800000#32 = ⊥ := by
  simp [Ideal.ofBits, Ideal.ieee]

theorem mxR_apply : mxR X W K (ix3 b h i) = Finset.univ.fold max ⊥ fun l : Fin 512 => scR X W K (ix4 b h i l) := by
  unfold mxR
  generalize scR X W K = S
  pointwise []
  rw [ofBits_negInf]

theorem wR_apply : wR X W K (ix4 b h i l) = Ideal.exp (scR X W K (ix4 b h i l) - mxR X W K (ix3 b h i)) := by
  unfold wR
  generalize mxR X W K = M
  generalize scR X W K = S
  pointwise []

theorem pR_apply : pR X W K (ix4 b h i l) = Ideal.div (wR X W K (ix4 b h i l)) (∑ l : Fin 512, wR X W K (ix4 b h i l)) := by
  unfold pR dR
  generalize wR X W K = S
  pointwise [keepR_apply]

theorem cR_apply : cR X W K V (ix3 b i ⟨64 * h.val + d.val, by have := h.isLt; have := d.isLt; omega⟩)
    = ∑ l : Fin 512, V (ix4 b l h d) * pR X W K (ix4 b h i l) := by
  unfold cR
  generalize pR X W K = S
  pointwise []

theorem oR_apply (n : Fin 768) : oR X W K V O (ix3 b i n) = ∑ p : Fin 4096, cR X W K V (ix3 b i p) * O (ix2 p n) := by
  unfold oR
  generalize cR X W K V = S
  pointwise []
end Ideal

end Cert.RefProof

end
-- ==== Proof.Soft.lean ====
/-
# Softmax on the extended reals: the largest score cancels

A softmax row is a row of exponentials over their sum. Taking a real number off every score multiplies
numerator and denominator by the same positive real, so the quotient stays. The scores are reals here, the
values that the row weighs are any extended reals.
-/
module

public import Idealize.ShloMosaic.Lib.Pointwise

@[expose] public section

noncomputable section

namespace Cert.RingMath

open Idealize.ShloMosaic
open scoped BigOperators

/-- The extended real is a real number. -/
def IsReal (a : EReal) : Prop := ∃ r : ℝ, a = (r : EReal)

theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- The sum of reals, read as extended reals, is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} [Fintype ι] {f : ι → EReal} (h : ∀ i, IsReal (f i)) : IsReal (∑ i, f i) := by
  choose r hr using h
  exact ⟨∑ i, r i, by rw [← coe_sum]; exact Finset.sum_congr rfl fun i _ => hr i⟩

/-- A finite number that is not negative distributes over any finite sum. -/
theorem sum_mul_of_nonneg {ι : Type} (s : Finset ι) (f : ι → EReal) {c : EReal} (hc : 0 ≤ c) (ht : c ≠ ⊤) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top hc ht]

/-- The largest of some reals, at least one, is a real. -/
theorem fold_max_real {ι : Type} (s : Finset ι) (f : ι → ℝ) : s = ∅ ∨ ∃ r : ℝ, s.fold max ⊥ (fun i => (f i : EReal)) = (r : EReal) := by
  classical
  induction s using Finset.induction_on with
  | empty => exact Or.inl rfl
  | insert a s ha ih =>
    refine Or.inr ?_
    rw [Finset.fold_insert ha]
    rcases ih with rfl | ⟨r, hr⟩
    · exact ⟨f a, by rw [Finset.fold_empty]; exact max_eq_left bot_le⟩
    · rw [hr]
      exact ⟨max (f a) r, (EReal.coe_strictMono.monotone.map_max).symm⟩

/-- The reciprocal form of a quotient by a positive real. -/
theorem div_coe (x : EReal) {y : ℝ} (hy : 0 < y) : Ideal.div x (y : EReal) = x * ((y⁻¹ : ℝ) : EReal) := by
  have h : (y : EReal) ≠ 0 := by exact_mod_cast hy.ne'
  rw [Ideal.div, if_neg h, EReal.coe_inv]

/-- A softmax with the largest score taken off, weighing `v`, is the quotient of the plain sums. -/
theorem softmax {n : ℕ} (hn : 0 < n) (s : Fin n → ℝ) (v : Fin n → EReal) :
    ∑ l, v l * Ideal.div (Ideal.exp ((s l : EReal) - Finset.univ.fold max ⊥ fun l => (s l : EReal)))
        (∑ l, Ideal.exp ((s l : EReal) - Finset.univ.fold max ⊥ fun l => (s l : EReal)))
      = Ideal.div (∑ l, Ideal.exp (s l : EReal) * v l) (∑ l, Ideal.exp (s l : EReal)) := by
  have hne : (Finset.univ : Finset (Fin n)).Nonempty := ⟨⟨0, hn⟩, Finset.mem_univ _⟩
  obtain ⟨M, hM⟩ := (fold_max_real Finset.univ s).resolve_left hne.ne_empty
  rw [hM]
  have hw : ∀ l, Ideal.exp ((s l : EReal) - (M : EReal)) = ((Real.exp (s l) * (Real.exp M)⁻¹ : ℝ) : EReal) := fun l => by
    rw [← EReal.coe_sub, Ideal.exp_coe, Real.exp_sub, div_eq_mul_inv]
  simp only [hw, Ideal.exp_coe, coe_sum]
  have hS : 0 < ∑ l, Real.exp (s l) := Finset.sum_pos (fun l _ => Real.exp_pos _) hne
  have hM0 : 0 < (Real.exp M)⁻¹ := inv_pos.2 (Real.exp_pos M)
  rw [← Finset.sum_mul, div_coe _ hS, ← sum_mul_of_nonneg _ _ (by exact_mod_cast (inv_pos.2 hS).le) (EReal.coe_ne_top _)]
  refine Finset.sum_congr rfl fun l _ => ?_
  rw [div_coe _ (mul_pos hS hM0), ← EReal.coe_mul, mul_comm ((Real.exp (s l) : ℝ) : EReal), mul_assoc (v l), ← EReal.coe_mul]
  congr 2
  field_simp

/-- The same over scores that are only known to be reals. -/
theorem softmax' {n : ℕ} (hn : 0 < n) (s : Fin n → EReal) (hs : ∀ l, IsReal (s l)) (v : Fin n → EReal) :
    ∑ l, v l * Ideal.div (Ideal.exp (s l - Finset.univ.fold max ⊥ fun l => s l)) (∑ l, Ideal.exp (s l - Finset.univ.fold max ⊥ fun l => s l))
      = Ideal.div (∑ l, Ideal.exp (s l) * v l) (∑ l, Ideal.exp (s l)) := by
  choose r hr using hs
  obtain rfl : s = fun l => (r l : EReal) := funext hr
  exact softmax hn r v

/-- The pattern of one eighth. -/
theorem ofBits_eighth : Ideal.ofBits .f32 0x3E000000#32 = (((1 : ℝ) / 8 : ℝ) : EReal) := by
  simp [Ideal.ofBits, Ideal.ieee, -EReal.coe_mul]; norm_num

/-- The score of a masked-out key is a real. -/
theorem ofBits_masked : IsReal (Ideal.ofBits .f32 0xCE6E6B28#32) := by
  refine ⟨-1000000000, ?_⟩
  simp [Ideal.ofBits, Ideal.ieee, -EReal.coe_mul, -EReal.coe_neg]; norm_num

/-- Scaling the queries is scaling the scores. -/
theorem scale_scores {n : ℕ} (q k : Fin n → EReal) :
    ∑ d, (q d * Ideal.ofBits .f32 0x3E000000#32) * k d = (∑ d, q d * k d) * Ideal.ofBits .f32 0x3E000000#32 := by
  rw [ofBits_eighth, ← sum_mul_of_nonneg _ _ (by exact_mod_cast (by norm_num : (0 : ℝ) ≤ 1 / 8)) (EReal.coe_ne_top _)]
  exact Finset.sum_congr rfl fun d _ => mul_right_comm _ _ _

/-- A number whose absolute value lies under infinity is a real. -/
theorem fin_of_abs_lt_top {a : EReal} (h : max a (-a) < ⊤) : IsReal a := by
  induction a using EReal.rec with
  | bot => simp at h
  | coe r => exact ⟨r, rfl⟩
  | top => simp at h

end Cert.RingMath

end
-- ==== Proof.Bridge.lean ====
/-
# The kernel’s result is the reference’s
-/
module

public import proofs.«01_k».proof.Proof.Parts
public import proofs.«01_k».proof.Proof.RefV
public import proofs.«01_k».proof.Proof.Soft
public import proofs.«01_k».proof.Proof.Body
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.RefProof (scR mxR wR pR cR oR qR maskR)
open Cert.RingMath

/-! ## Where device `c`'s part of a whole array lies -/

/-- Column `p` of device `k`'s block of the 4096 columns. -/
def colOf (k : Dev nD) (p : Fin 512) : Fin 4096 := ⟨512 * k.val + p.val, by have := k.isLt; have := p.isLt; have : nD = 8 := rfl; omega⟩

section Whole
variable {α : Type}

theorem block_batch (c : Dev nD) (X : (⟨3, ![16, 512, 768]⟩ : Shape).Idx → α) (b : Fin 2) (i : Fin 512) (e : Fin 768) :
    Layout.block ⟨3, ![2, 512, 768]⟩ ⟨3, ![16, 512, 768]⟩ 0 8 c X (by decide) (ix3 b i e) = X (ix3 (batchOf c b) i e) := by
  refine congrArg X (funext fun a => ?_)
  match a with
  | ⟨0, _⟩ => exact Fin.ext (by show c.val * 2 + b.val = 2 * c.val + b.val; omega)
  | ⟨1, _⟩ => rfl
  | ⟨2, _⟩ => rfl
theorem block_cols (c : Dev nD) (W : (⟨2, ![768, 4096]⟩ : Shape).Idx → α) (e : Fin 768) (l : Fin 512) :
    Layout.block ⟨2, ![768, 512]⟩ ⟨2, ![768, 4096]⟩ 1 8 c W (by decide) (ix2 e l) = W (ix2 e (colOf c l)) := by
  refine congrArg W (funext fun a => ?_)
  match a with
  | ⟨0, _⟩ => rfl
  | ⟨1, _⟩ => exact Fin.ext (by show c.val * 512 + l.val = 512 * c.val + l.val; omega)
theorem block_rows (c : Dev nD) (O : (⟨2, ![4096, 768]⟩ : Shape).Idx → α) (p : Fin 512) (n : Fin 768) :
    Layout.block ⟨2, ![512, 768]⟩ ⟨2, ![4096, 768]⟩ 0 8 c O (by decide) (ix2 p n) = O (ix2 (colOf c p) n) := by
  refine congrArg O (funext fun a => ?_)
  match a with
  | ⟨0, _⟩ => exact Fin.ext (by show c.val * 512 + p.val = 512 * c.val + p.val; omega)
  | ⟨1, _⟩ => rfl
end Whole

/-! ## The sum over the slots and their columns is the sum over all columns -/

theorem sum_cols (f : Fin 4096 → EReal) : ∑ k : Fin 8, ∑ p : Fin 512, f (colOf k p) = ∑ P : Fin 4096, f P := by
  rw [← Fintype.sum_prod_type']
  refine Fintype.sum_equiv (finProdFinEquiv (m := 8) (n := 512)) _ _ fun x => congrArg f (Fin.ext ?_)
  show 512 * x.1.val + x.2.val = x.2.val + 512 * x.1.val
  omega

section Value
variable (M : (ℓ : Loc nD τ sig) → Buf (Elt Ideal) ℓ)
variable (X : FVec Ideal ⟨3, ![16, 512, 768]⟩ .f32) (W : FVec Ideal ⟨2, ![768, 4096]⟩ .f32) (K V : FVec Ideal ⟨4, ![16, 512, 64, 64]⟩ .f32)
  (O : FVec Ideal ⟨2, ![4096, 768]⟩ .f32)

/-- The devices hold the whole arrays: blocks of the activations and the two weights, copies of the keys and the values. -/
structure Placed : Prop where
  x : ∀ c : Dev nD, arr M c main_arg0 = Layout.block ⟨3, ![2, 512, 768]⟩ ⟨3, ![16, 512, 768]⟩ 0 8 c X (by decide)
  wq : ∀ c : Dev nD, arr M c main_arg1 = Layout.block ⟨2, ![768, 512]⟩ ⟨2, ![768, 4096]⟩ 1 8 c W (by decide)
  k : ∀ c : Dev nD, arr M c main_arg2 = K
  v : ∀ c : Dev nD, arr M c main_arg3 = V
  wo : ∀ c : Dev nD, arr M c main_arg4 = Layout.block ⟨2, ![512, 768]⟩ ⟨2, ![4096, 768]⟩ 0 8 c O (by decide)

/-- Activations, query weights and keys are real numbers. -/
structure Reals : Prop where
  x : ∀ b i e, IsReal (X (ix3 b i e))
  wq : ∀ e p, IsReal (W (ix2 e p))
  k : ∀ b l h d, IsReal (K (ix4 b l h d))

variable {M X W K V O}

/-- Every score is a real number. -/
theorem score_real (hR : Reals X W K) (b : Fin 16) (h : Fin 64) (i l : Fin 512) : IsReal (scR X W K (ix4 b h i l)) := by
  rw [Cert.RefProof.scR_apply]
  unfold Scalar.select
  split
  · refine IsReal.mul (IsReal.sum fun d => IsReal.mul ?_ (hR.k _ _ _ _)) ⟨_, ofBits_eighth⟩
    rw [Cert.RefProof.qR_apply]
    exact IsReal.sum fun e => IsReal.mul (hR.x _ _ _) (hR.wq _ _)
  · exact ofBits_masked

/-- The reference's context: the quotient of two plain sums of exponentials. -/
theorem context_eq (hR : Reals X W K) (b : Fin 16) (i : Fin 512) (h d : Fin 64) :
    cR X W K V (ix3 b i ⟨64 * h.val + d.val, by have := h.isLt; have := d.isLt; omega⟩)
      = Ideal.div (∑ l : Fin 512, Ideal.exp (scR X W K (ix4 b h i l)) * V (ix4 b l h d)) (∑ l : Fin 512, Ideal.exp (scR X W K (ix4 b h i l))) := by
  rw [Cert.RefProof.cR_apply]
  simp only [Cert.RefProof.pR_apply, Cert.RefProof.wR_apply, Cert.RefProof.mxR_apply]
  exact softmax' (by decide) (fun l => scR X W K (ix4 b h i l)) (fun l => score_real hR b h i l) fun l => V (ix4 b l h d)

variable (hH : Placed M X W K V O)
include hH

/-- Where every device's activations, query weights and keys are real, the whole arrays are. -/
theorem reals_of_parts (hx : ∀ c i, IsReal (arr M c main_arg0 i)) (hw : ∀ c i, IsReal (arr M c main_arg1 i)) (hk : ∀ c i, IsReal (arr M c main_arg2 i)) :
    Reals X W K where
  x b i e := by
    obtain ⟨c, b', rfl⟩ : ∃ (c : Dev nD) (b' : Fin 2), b = batchOf c b' :=
      ⟨⟨b.val / 2, by have := b.isLt; show b.val / 2 < 8; omega⟩, ⟨b.val % 2, by omega⟩, Fin.ext (by show b.val = 2 * (b.val / 2) + b.val % 2; omega)⟩
    rw [← block_batch c X b' i e, ← hH.x]
    exact hx c _
  wq e p := by
    obtain ⟨c, l, rfl⟩ : ∃ (c : Dev nD) (l : Fin 512), p = colOf c l :=
      ⟨⟨p.val / 512, by have := p.isLt; show p.val / 512 < 8; omega⟩, ⟨p.val % 512, by omega⟩, Fin.ext (by show p.val = 512 * (p.val / 512) + p.val % 512; omega)⟩
    rw [← block_cols c W e l, ← hH.wq]
    exact hw c _
  k b l h d := by
    rw [← hH.k (0 : Fin 8)]
    exact hk _ _

/-- The scaled queries of a step. -/
theorem query_eq (c k : Dev nD) (b : Fin 2) (hb) (i : Fin 512) (j : Fin 8) (d : Fin 64) :
    qHead (k0_pay5 (xRow M c b.val hb) (wqB M k)) j (ix2 i d) = qR X W (ix4 (batchOf c b) i (headOf k j) d) * Ideal.ofBits .f32 0x3E000000#32 := by
  rw [qHead_apply, pay5_apply, Cert.RefProof.qR_apply]
  simp only [xRow_apply, wqB_apply, hH.x, hH.wq]
  refine congrArg (· * _) (Finset.sum_congr rfl fun e _ => ?_)
  rw [block_cols]
  refine congrArg₂ (· * ·) (block_batch c X b i e) (congrArg (fun p => W (ix2 e p)) (Fin.ext ?_))
  show 512 * k.val + (64 * j.val + d.val) = 64 * (8 * k.val + j.val) + d.val
  omega

/-- The exponentials of a step's head. -/
theorem exps_eq (c : Dev nD) (b : Fin 2) (hb) (n : Fin 16) (hn : n.val / 8 = b.val) (j : Fin 8) (i l : Fin 512) :
    eV (qHead (k0_pay5 (xRow M c b.val hb) (wqB M (back c n.val))) j) mskV (kRow M c n j) (ix2 i l)
      = Ideal.exp (scR X W K (ix4 (batchOf c b) (headOf (back c n.val) j) i l)) := by
  rw [eV_apply, Cert.RefProof.scR_apply, mskV_apply, Cert.RefProof.maskR_apply, ← scale_scores]
  simp only [query_eq hH, kRow_apply M c b n hn, hH.k]
  rfl

/-- The context of a step, column by column, is the reference's. -/
theorem ctx_eq (hR : Reals X W K) (c : Dev nD) (b : Fin 2) (hb) (n : Fin 16) (hn : n.val / 8 = b.val) (i p : Fin 512) :
    ctxV (xRow M c b.val hb) (wqB M (back c n.val)) (kRow M c n) (vRow M c n) (ix2 i p)
      = cR X W K V (ix3 (batchOf c b) i (colOf (back c n.val) p)) := by
  obtain ⟨j, d, rfl⟩ : ∃ (j : Fin 8) (d : Fin 64), p = ⟨64 * j.val + d.val, by have := j.isLt; have := d.isLt; omega⟩ :=
    ⟨⟨p.val / 64, by have := p.isLt; omega⟩, ⟨p.val % 64, by omega⟩, Fin.ext (by show p.val = 64 * (p.val / 64) + p.val % 64; omega)⟩
  rw [ctxV_apply, headV_apply]
  simp only [exps_eq hH c b hb n hn, vRow_apply M c b n hn, hH.v]
  rw [← context_eq hR]
  refine congrArg (fun p => cR X W K V (ix3 (batchOf c b) i p)) (Fin.ext ?_)
  show 64 * (8 * (back c n.val).val + j.val) + d.val = 512 * (back c n.val).val + (64 * j.val + d.val)
  omega

omit hH in
theorem xRow_congr (M : (ℓ : Loc nD τ sig) → Buf (Elt Ideal) ℓ) (c : Dev nD) {a b : ℕ} (h : a = b) (ha : a < 2) (hb : b < 2) : xRow M c a ha = xRow M c b hb := by
  subst h; rfl

/-- A step's product: the slot's columns of the reference's last contraction. -/
theorem part_eq (hR : Reals X W K) (c : Dev nD) (b : Fin 2) (s : Fin 8) (i : Fin 512) (n : Fin 768) :
    partAt M c (stepOf b s.val s.isLt) (ix2 i n)
      = ∑ p : Fin 512, cR X W K V (ix3 (batchOf c b) i (colOf (back c s.val) p)) * O (ix2 (colOf (back c s.val) p) n) := by
  have hq : (st (stepOf b s.val s.isLt)).val / 8 = b.val := by
    show (8 * b.val + s.val) / 8 = b.val
    have := s.isLt; omega
  have hk : back c (st (stepOf b s.val s.isLt)).val = back c s.val := by
    rw [← back_mod c (st (stepOf b s.val s.isLt)).val, ← back_mod c s.val]
    exact congrArg (back c) (show (8 * b.val + s.val) % 8 = s.val % 8 by omega)
  unfold partAt
  rw [partV_apply]
  refine Finset.sum_congr rfl fun p _ => ?_
  have hx := xRow_congr M c (show (stepOf b s.val s.isLt).val / 8 = b.val from hq) (by rw [show (stepOf b s.val s.isLt).val / 8 = b.val from hq]; exact b.isLt) b.isLt
  rw [hx]
  refine congrArg₂ (· * ·) ((ctx_eq hH hR c b b.isLt (st (stepOf b s.val s.isLt)) hq i p).trans (by rw [hk])) ?_
  refine (woB_apply M _ p n).trans ?_
  rw [hH.wo, block_rows, show (stepOf b s.val s.isLt).val = (st (stepOf b s.val s.isLt)).val from rfl, hk]

/-- The result array of device `c` is its part of the reference's result. -/
theorem out_eq (hR : Reals X W K) (c : Dev nD) :
    outV M c = Layout.block ⟨3, ![2, 512, 768]⟩ ⟨3, ![16, 512, 768]⟩ 0 8 c (oR X W K V O) (by decide) := by
  funext y
  obtain ⟨b, i, n, rfl⟩ : ∃ (b : Fin 2) (i : Fin 512) (n : Fin 768), y = ix3 b i n := ⟨y 0, y 1, y 2, funext fun a => match a with
    | ⟨0, _⟩ => rfl
    | ⟨1, _⟩ => rfl
    | ⟨2, _⟩ => rfl⟩
  rw [block_batch, Cert.RefProof.oR_apply]
  show acc M c (8 * b.val + 7) (ix3 0 i n) = _
  refine (acc_apply M c b i n 7 (by omega)).trans ((Finset.sum_congr rfl fun s _ => part_eq hH hR c b s i n).trans ?_)
  refine (Equiv.sum_comp (backE c) fun k : Fin 8 => ∑ p : Fin 512, cR X W K V (ix3 (batchOf c b) i (colOf k p)) * O (ix2 (colOf k p) n)).trans ?_
  exact sum_cols fun P => cR X W K V (ix3 (batchOf c b) i P) * O (ix2 P n)
end Value

end Cert.RingProof

end
-- ==== Proof.Pre.lean ====
/-
# The precondition, read element by element

`finite_scores` compares the absolute value of every element of the activations, the query weights and the keys
with infinity. Where it holds, every one of these elements is a real number.
-/
module

public import proofs.«01_k».proof.Pre_finite_scores_KernelIdeal
public import proofs.«01_k».proof.Pre_finite_scores_ReferenceIdeal
public import proofs.«01_k».proof.Proof.Soft
public import Idealize.ShloMosaic.Lib.ReduceAll
public import Idealize.ShloMosaic.Lib.Decide
public import Idealize.ShloMosaic.Lib.Pointwise

@[expose] public section

noncomputable section

open Idealize.ShloMosaic
open Cert.RingMath

namespace Cert.Pre_finite_scores_ReferenceIdeal

theorem facts : Facts where
  bcast_S_S16x512x768 := by decide
  reducesTo_S16x512x768_S_d0_1_2 := by decide
  h_S_ := by decide
  bcast_S_S768x4096 := by decide
  reducesTo_S768x4096_S_d0_1 := by decide
  bcast_S_S16x512x64x64 := by decide
  reducesTo_S16x512x64x64_S_d0_1_2_3 := by decide

end Cert.Pre_finite_scores_ReferenceIdeal

namespace Cert.Pre_finite_scores_KernelIdeal

instance facts : Facts where
  bcast_S_S2x512x768 := by decide
  reducesTo_S2x512x768_S_d0_1_2 := by decide
  h_S_ := by decide
  bcast_S_S768x512 := by decide
  reducesTo_S768x512_S_d0_1 := by decide
  bcast_S_S16x512x64x64 := by decide
  reducesTo_S16x512x64x64_S_d0_1_2_3 := by decide

theorem one_idx : Subsingleton S_.Idx := ⟨fun _ _ => funext fun a => a.elim0⟩

theorem ofBits_inf : Ideal.ofBits .f32 0x7F800000#32 = ⊤ := by
  simp [Ideal.ofBits, Ideal.ieee]

theorem and_one (a b : BitVec 1) (h : IntOp.andi a b = 1#1) : a = 1#1 ∧ b = 1#1 := by revert a b; decide

/-- An element whose absolute value compares below infinity is a real number. -/
theorem real_of_cmp {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) : IsReal (x i) := by
  have e : Ideal.cmp .olt (max (x i) (-(x i))) (Ideal.ofBits .f32 0x7F800000#32) = 1#1 := h
  rw [ofBits_inf] at e
  unfold Ideal.cmp at e
  refine fin_of_abs_lt_top ?_
  by_contra hn
  simp only [hn] at e
  exact absurd e (by decide)

/-- Where the precondition holds, the first three arguments are real in every element. -/
theorem reals (x : FVec Ideal S2x512x768 .f32) (w : FVec Ideal S768x512 .f32) (k v : FVec Ideal S16x512x64x64 .f32) (o : FVec Ideal S512x768 .f32)
    (h : fn (F := Ideal) x w k v o = fun _ => 1#1) : (∀ i, IsReal (x i)) ∧ (∀ i, IsReal (w i)) ∧ ∀ i, IsReal (k i) := by
  haveI := one_idx
  have h0 := congrFun h (fun a => a.elim0)
  obtain ⟨h12, h3⟩ := and_one _ _ h0
  obtain ⟨h1, h2⟩ := and_one _ _ h12
  exact ⟨fun i => real_of_cmp x _ i (Host.reduce_andi_all _ _ _ _ _ h1 i), fun i => real_of_cmp w _ i (Host.reduce_andi_all _ _ _ _ _ h2 i),
    fun i => real_of_cmp k _ i (Host.reduce_andi_all _ _ _ _ _ h3 i)⟩

end Cert.Pre_finite_scores_KernelIdeal

end
-- ==== Proof.lean ====
/-
# The claims about the gathered block-sparse attention kernel and its reference
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Main
public import proofs.«01_k».proof.Proof.Bridge
public import proofs.«01_k».proof.Proof.Pre
public import Idealize.ShloMosaic.Adequacy
public import Idealize.ShloMosaic.Init

@[expose] public section

noncomputable section

namespace Cert.Proof

open Idealize.ShloMosaic Idealize.SL.Sem

/-- Any run of the gathered kernel leaves its five arguments as they were and every counter at zero. -/
theorem kept {F : FTy → Type} [FloatOps F] {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (h : Cert.RingProof.QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨((h c).1 0).trans (Cert.RingProof.finalA_0 m c), ((h c).1 1).trans (Cert.RingProof.finalA_1 m c), (h c).2.1, (h c).2.2,
    ((h c).1 2).trans (Cert.RingProof.finalA_2 m c)⟩

theorem frame_ideal : Cert.quiescent_KernelIdeal := fun m ρ _ =>
  (θ_run Cert.KernelIdeal.defs _ _).mono (fun _ h => ⟨fun c => kept h.1 c, h.2⟩) (Cert.RingProof.run_main (F := Ideal) m ρ)

/-- The two programs call the same kernel function at every grid point. -/
theorem table_same : Cert.Kernel.defs₀ (F := Bits) = Cert.KernelIdeal.defs₀ (F := Bits) := by
  unfold Cert.Kernel.defs₀ Cert.KernelIdeal.defs₀
  refine congrArg (Defs.onTc (Λ := Cert.Kernel.Λ₀)) ?_
  funext l x
  match l, x with
  | 0, (t, s) => rfl

theorem defs_same : Cert.Kernel.defs (F := Bits) = Cert.KernelIdeal.defs (F := Bits) := by
  unfold Cert.Kernel.defs Cert.KernelIdeal.defs
  rw [table_same]; rfl

theorem frame_kernel : Cert.quiescent_Kernel := fun m ρ _ => by
  rw [defs_same]
  exact (θ_run (Cert.KernelIdeal.defs (F := Bits)) (onTc (τ := Cert.KernelIdeal.τ) Cert.KernelIdeal.main) ⟨m, fun _ => 0, ρ⟩).mono
    (fun _ h => ⟨fun c => kept h.1 c, h.2⟩) (Cert.RingProof.run_main (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ideal_pre : Cert.quiescent_KernelIdeal_pre_finite_scores_KernelIdeal := fun m ρ _ => frame_ideal m ρ trivial
theorem frame_reference_pre [Cert.Pre_finite_scores_ReferenceIdeal.Facts] : Cert.quiescent_ReferenceIdeal_pre_finite_scores_ReferenceIdeal :=
  fun m ρ _ => frame_reference m ρ trivial

/-- Every device ends with its part of the reference's result, where the scores are finite. -/
theorem value : Cert.algebraic_KernelIdeal_ReferenceIdeal_pre_finite_scores_KernelIdeal := fun m g m' g' hpre hargs => by
  have hr := fun c => Cert.Pre_finite_scores_KernelIdeal.reals _ _ _ _ _ (hpre c)
  have hH : Cert.RingProof.Placed m _ _ _ _ _ :=
    ⟨fun c => (hargs c).1, fun c => (hargs c).2.1, fun c => (hargs c).2.2.1, fun c => (hargs c).2.2.2.1, fun c => (hargs c).2.2.2.2⟩
  have hR := Cert.RingProof.reals_of_parts hH (fun c => (hr c).1) (fun c => (hr c).2.1) (fun c => (hr c).2.2)
  refine ⟨_, (θ_run Cert.KernelIdeal.defs _ _).mono (fun r h c =>
      ⟨(((h.1 c).1 3).trans (Cert.RingProof.finalA_3 m c)).trans (Cert.RingProof.out_eq hH hR c), kept h.1 c⟩) (Cert.RingProof.run_main (F := Ideal) m g),
    (θ_run Cert.ReferenceIdeal.defs _ _).mono (fun r h => ⟨(h 0).1.trans (Cert.RefProof.res_eq m' 0), (h 0).2⟩) (Cert.ReferenceIdeal.Value.run (F := Ideal) m' g')⟩

theorem claim : Cert.Claim := ⟨Cert.Kernel.Gen.facts, Cert.KernelIdeal.Gen.facts, Cert.ReferenceIdeal.Gen.facts,
  Cert.Pre_finite_scores_KernelIdeal.facts, Cert.Pre_finite_scores_ReferenceIdeal.facts,
  frame_kernel, frame_ideal, frame_ideal_pre, frame_reference, @frame_reference_pre Cert.Pre_finite_scores_ReferenceIdeal.facts, trivial, value⟩

end Cert.Proof

end
